-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x4096x1024 : Shape := ⟨3, ![32, 4096, 1024]⟩
abbrev S131072x1024 : Shape := ⟨2, ![131072, 1024]⟩
abbrev S1024x1024 : Shape := ⟨2, ![1024, 1024]⟩
abbrev S8x128 : Shape := ⟨2, ![8, 128]⟩

abbrev nBuf : Space → Nat
  | .hbm => 4
  | .vmem => 7
  | .smem => 0
  | _ => 0

abbrev bufTy : (tb : Table) → Fin (tcTables nBuf tb) → BufTy
  | .hbm, ⟨0, _⟩ => ⟨S32x4096x1024, .f32⟩
  | .hbm, ⟨1, _⟩ => ⟨S131072x1024, .f32⟩
  | .hbm, ⟨2, _⟩ => ⟨S131072x1024, .f32⟩
  | .hbm, ⟨3, _⟩ => ⟨S32x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .i32⟩
  | .local _ .vmem, ⟨5, _⟩ => ⟨S1024x1024, .i32⟩
  | .local _ .vmem, ⟨6, _⟩ => ⟨S1024x1024, .i32⟩
  | _, _ => ⟨S32x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S32x4096x1024 : Shape := ⟨3, ![32, 4096, 1024]⟩
abbrev S_ : Shape := ⟨0, ![]⟩
abbrev S1 : Shape := ⟨1, ![1]⟩
abbrev S2 : Shape := ⟨1, ![2]⟩
abbrev S1x1x1 : Shape := ⟨3, ![1, 1, 1]⟩

abbrev nBuf : Space → Nat
  | .hbm => 281
  | .vmem => 0
  | .smem => 0
  | _ => 0

abbrev hbmTy0_0 (i : Nat) : BufTy := match i % 128 with
  | 0 => ⟨S32x4096x1024, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1x1, .f32⟩
  | 16 => ⟨S1x1x1, .f32⟩
  | 17 => ⟨S1, .i32⟩
  | 18 => ⟨S_, .i32⟩
  | 19 => ⟨S1, .i32⟩
  | 20 => ⟨S_, .i32⟩
  | 21 => ⟨S32x4096x1024, .i64⟩
  | 22 => ⟨S32x4096x1024, .i64⟩
  | 23 => ⟨S32x4096x1024, .i64⟩
  | 24 => ⟨S_, .i64⟩
  | 25 => ⟨S32x4096x1024, .i64⟩
  | 26 => ⟨S32x4096x1024, .i64⟩
  | 27 => ⟨S_, .i64⟩
  | 28 => ⟨S32x4096x1024, .i64⟩
  | 29 => ⟨S32x4096x1024, .i64⟩
  | 30 => ⟨S_, .i64⟩
  | 31 => ⟨S32x4096x1024, .i64⟩
  | 32 => ⟨S32x4096x1024, .i64⟩
  | 33 => ⟨S32x4096x1024, .i64⟩
  | 34 => ⟨S32x4096x1024, .i64⟩
  | 35 => ⟨S_, .i64⟩
  | 36 => ⟨S32x4096x1024, .i64⟩
  | 37 => ⟨S32x4096x1024, .i64⟩
  | 38 => ⟨S32x4096x1024, .i32⟩
  | 39 => ⟨S32x4096x1024, .i32⟩
  | 40 => ⟨S_, .i32⟩
  | 41 => ⟨S_, .i32⟩
  | 42 => ⟨S_, .i32⟩
  | 43 => ⟨S32x4096x1024, .i32⟩
  | 44 => ⟨S32x4096x1024, .i32⟩
  | 45 => ⟨S32x4096x1024, .i32⟩
  | 46 => ⟨S32x4096x1024, .i32⟩
  | 47 => ⟨S32x4096x1024, .i32⟩
  | 48 => ⟨S_, .i32⟩
  | 49 => ⟨S32x4096x1024, .i32⟩
  | 50 => ⟨S32x4096x1024, .i32⟩
  | 51 => ⟨S_, .i32⟩
  | 52 => ⟨S32x4096x1024, .i32⟩
  | 53 => ⟨S32x4096x1024, .i32⟩
  | 54 => ⟨S32x4096x1024, .i32⟩
  | 55 => ⟨S32x4096x1024, .i32⟩
  | 56 => ⟨S32x4096x1024, .i32⟩
  | 57 => ⟨S_, .i32⟩
  | 58 => ⟨S32x4096x1024, .i32⟩
  | 59 => ⟨S32x4096x1024, .i32⟩
  | 60 => ⟨S_, .i32⟩
  | 61 => ⟨S32x4096x1024, .i32⟩
  | 62 => ⟨S32x4096x1024, .i32⟩
  | 63 => ⟨S32x4096x1024, .i32⟩
  | 64 => ⟨S32x4096x1024, .i32⟩
  | 65 => ⟨S32x4096x1024, .i32⟩
  | 66 => ⟨S_, .i32⟩
  | 67 => ⟨S32x4096x1024, .i32⟩
  | 68 => ⟨S32x4096x1024, .i32⟩
  | 69 => ⟨S_, .i32⟩
  | 70 => ⟨S32x4096x1024, .i32⟩
  | 71 => ⟨S32x4096x1024, .i32⟩
  | 72 => ⟨S32x4096x1024, .i32⟩
  | 73 => ⟨S32x4096x1024, .i32⟩
  | 74 => ⟨S32x4096x1024, .i32⟩
  | 75 => ⟨S_, .i32⟩
  | 76 => ⟨S32x4096x1024, .i32⟩
  | 77 => ⟨S32x4096x1024, .i32⟩
  | 78 => ⟨S_, .i32⟩
  | 79 => ⟨S32x4096x1024, .i32⟩
  | 80 => ⟨S32x4096x1024, .i32⟩
  | 81 => ⟨S32x4096x1024, .i32⟩
  | 82 => ⟨S32x4096x1024, .i32⟩
  | 83 => ⟨S32x4096x1024, .i32⟩
  | 84 => ⟨S32x4096x1024, .i32⟩
  | 85 => ⟨S32x4096x1024, .i32⟩
  | 86 => ⟨S32x4096x1024, .i32⟩
  | 87 => ⟨S_, .i32⟩
  | 88 => ⟨S32x4096x1024, .i32⟩
  | 89 => ⟨S32x4096x1024, .i32⟩
  | 90 => ⟨S32x4096x1024, .i32⟩
  | 91 => ⟨S_, .i32⟩
  | 92 => ⟨S32x4096x1024, .i32⟩
  | 93 => ⟨S32x4096x1024, .i32⟩
  | 94 => ⟨S_, .i32⟩
  | 95 => ⟨S32x4096x1024, .i32⟩
  | 96 => ⟨S32x4096x1024, .i32⟩
  | 97 => ⟨S32x4096x1024, .i32⟩
  | 98 => ⟨S32x4096x1024, .i32⟩
  | 99 => ⟨S32x4096x1024, .i32⟩
  | 100 => ⟨S_, .i32⟩
  | 101 => ⟨S32x4096x1024, .i32⟩
  | 102 => ⟨S32x4096x1024, .i32⟩
  | 103 => ⟨S_, .i32⟩
  | 104 => ⟨S32x4096x1024, .i32⟩
  | 105 => ⟨S32x4096x1024, .i32⟩
  | 106 => ⟨S32x4096x1024, .i32⟩
  | 107 => ⟨S32x4096x1024, .i32⟩
  | 108 => ⟨S32x4096x1024, .i32⟩
  | 109 => ⟨S_, .i32⟩
  | 110 => ⟨S32x4096x1024, .i32⟩
  | 111 => ⟨S32x4096x1024, .i32⟩
  | 112 => ⟨S_, .i32⟩
  | 113 => ⟨S32x4096x1024, .i32⟩
  | 114 => ⟨S32x4096x1024, .i32⟩
  | 115 => ⟨S32x4096x1024, .i32⟩
  | 116 => ⟨S32x4096x1024, .i32⟩
  | 117 => ⟨S32x4096x1024, .i32⟩
  | 118 => ⟨S_, .i32⟩
  | 119 => ⟨S32x4096x1024, .i32⟩
  | 120 => ⟨S32x4096x1024, .i32⟩
  | 121 => ⟨S_, .i32⟩
  | 122 => ⟨S32x4096x1024, .i32⟩
  | 123 => ⟨S32x4096x1024, .i32⟩
  | 124 => ⟨S32x4096x1024, .i32⟩
  | 125 => ⟨S32x4096x1024, .i32⟩
  | 126 => ⟨S32x4096x1024, .i32⟩
  | 127 => ⟨S32x4096x1024, .i32⟩
  | _ => ⟨S32x4096x1024, .f32⟩

abbrev hbmTy0_1 (i : Nat) : BufTy := match i % 128 with
  | 0 => ⟨S32x4096x1024, .i32⟩
  | 1 => ⟨S32x4096x1024, .i32⟩
  | 2 => ⟨S_, .i32⟩
  | 3 => ⟨S32x4096x1024, .i32⟩
  | 4 => ⟨S32x4096x1024, .i32⟩
  | 5 => ⟨S32x4096x1024, .i32⟩
  | 6 => ⟨S_, .i32⟩
  | 7 => ⟨S32x4096x1024, .i32⟩
  | 8 => ⟨S32x4096x1024, .i32⟩
  | 9 => ⟨S_, .i32⟩
  | 10 => ⟨S32x4096x1024, .i32⟩
  | 11 => ⟨S32x4096x1024, .i32⟩
  | 12 => ⟨S32x4096x1024, .i32⟩
  | 13 => ⟨S32x4096x1024, .i32⟩
  | 14 => ⟨S32x4096x1024, .i32⟩
  | 15 => ⟨S_, .i32⟩
  | 16 => ⟨S32x4096x1024, .i32⟩
  | 17 => ⟨S32x4096x1024, .i32⟩
  | 18 => ⟨S_, .i32⟩
  | 19 => ⟨S32x4096x1024, .i32⟩
  | 20 => ⟨S32x4096x1024, .i32⟩
  | 21 => ⟨S32x4096x1024, .i32⟩
  | 22 => ⟨S32x4096x1024, .i32⟩
  | 23 => ⟨S32x4096x1024, .i32⟩
  | 24 => ⟨S_, .i32⟩
  | 25 => ⟨S32x4096x1024, .i32⟩
  | 26 => ⟨S32x4096x1024, .i32⟩
  | 27 => ⟨S_, .i32⟩
  | 28 => ⟨S32x4096x1024, .i32⟩
  | 29 => ⟨S32x4096x1024, .i32⟩
  | 30 => ⟨S32x4096x1024, .i32⟩
  | 31 => ⟨S32x4096x1024, .i32⟩
  | 32 => ⟨S32x4096x1024, .i32⟩
  | 33 => ⟨S_, .i32⟩
  | 34 => ⟨S32x4096x1024, .i32⟩
  | 35 => ⟨S32x4096x1024, .i32⟩
  | 36 => ⟨S_, .i32⟩
  | 37 => ⟨S32x4096x1024, .i32⟩
  | 38 => ⟨S32x4096x1024, .i32⟩
  | 39 => ⟨S32x4096x1024, .i32⟩
  | 40 => ⟨S32x4096x1024, .i32⟩
  | 41 => ⟨S32x4096x1024, .i32⟩
  | 42 => ⟨S32x4096x1024, .i32⟩
  | 43 => ⟨S32x4096x1024, .i32⟩
  | 44 => ⟨S32x4096x1024, .i32⟩
  | 45 => ⟨S_, .i32⟩
  | 46 => ⟨S32x4096x1024, .i32⟩
  | 47 => ⟨S32x4096x1024, .i32⟩
  | 48 => ⟨S32x4096x1024, .i32⟩
  | 49 => ⟨S_, .i32⟩
  | 50 => ⟨S32x4096x1024, .i32⟩
  | 51 => ⟨S32x4096x1024, .i32⟩
  | 52 => ⟨S_, .i32⟩
  | 53 => ⟨S32x4096x1024, .i32⟩
  | 54 => ⟨S32x4096x1024, .i32⟩
  | 55 => ⟨S32x4096x1024, .i32⟩
  | 56 => ⟨S32x4096x1024, .i32⟩
  | 57 => ⟨S32x4096x1024, .i32⟩
  | 58 => ⟨S_, .i32⟩
  | 59 => ⟨S32x4096x1024, .i32⟩
  | 60 => ⟨S32x4096x1024, .i32⟩
  | 61 => ⟨S_, .i32⟩
  | 62 => ⟨S32x4096x1024, .i32⟩
  | 63 => ⟨S32x4096x1024, .i32⟩
  | 64 => ⟨S32x4096x1024, .i32⟩
  | 65 => ⟨S32x4096x1024, .i32⟩
  | 66 => ⟨S32x4096x1024, .i32⟩
  | 67 => ⟨S_, .i32⟩
  | 68 => ⟨S32x4096x1024, .i32⟩
  | 69 => ⟨S32x4096x1024, .i32⟩
  | 70 => ⟨S_, .i32⟩
  | 71 => ⟨S32x4096x1024, .i32⟩
  | 72 => ⟨S32x4096x1024, .i32⟩
  | 73 => ⟨S32x4096x1024, .i32⟩
  | 74 => ⟨S32x4096x1024, .i32⟩
  | 75 => ⟨S32x4096x1024, .i32⟩
  | 76 => ⟨S_, .i32⟩
  | 77 => ⟨S32x4096x1024, .i32⟩
  | 78 => ⟨S32x4096x1024, .i32⟩
  | 79 => ⟨S_, .i32⟩
  | 80 => ⟨S32x4096x1024, .i32⟩
  | 81 => ⟨S32x4096x1024, .i32⟩
  | 82 => ⟨S32x4096x1024, .i32⟩
  | 83 => ⟨S32x4096x1024, .i32⟩
  | 84 => ⟨S32x4096x1024, .i32⟩
  | 85 => ⟨S32x4096x1024, .i32⟩
  | 86 => ⟨S32x4096x1024, .i32⟩
  | 87 => ⟨S32x4096x1024, .i32⟩
  | 88 => ⟨S_, .i32⟩
  | 89 => ⟨S32x4096x1024, .i32⟩
  | 90 => ⟨S32x4096x1024, .i32⟩
  | 91 => ⟨S32x4096x1024, .i32⟩
  | 92 => ⟨S_, .i32⟩
  | 93 => ⟨S32x4096x1024, .i32⟩
  | 94 => ⟨S32x4096x1024, .i32⟩
  | 95 => ⟨S_, .i32⟩
  | 96 => ⟨S32x4096x1024, .i32⟩
  | 97 => ⟨S32x4096x1024, .i32⟩
  | 98 => ⟨S32x4096x1024, .i32⟩
  | 99 => ⟨S32x4096x1024, .i32⟩
  | 100 => ⟨S32x4096x1024, .i32⟩
  | 101 => ⟨S_, .i32⟩
  | 102 => ⟨S32x4096x1024, .i32⟩
  | 103 => ⟨S32x4096x1024, .i32⟩
  | 104 => ⟨S_, .i32⟩
  | 105 => ⟨S32x4096x1024, .i32⟩
  | 106 => ⟨S32x4096x1024, .i32⟩
  | 107 => ⟨S32x4096x1024, .i32⟩
  | 108 => ⟨S32x4096x1024, .i32⟩
  | 109 => ⟨S32x4096x1024, .i32⟩
  | 110 => ⟨S_, .i32⟩
  | 111 => ⟨S32x4096x1024, .i32⟩
  | 112 => ⟨S32x4096x1024, .i32⟩
  | 113 => ⟨S_, .i32⟩
  | 114 => ⟨S32x4096x1024, .i32⟩
  | 115 => ⟨S32x4096x1024, .i32⟩
  | 116 => ⟨S32x4096x1024, .i32⟩
  | 117 => ⟨S32x4096x1024, .i32⟩
  | 118 => ⟨S32x4096x1024, .i32⟩
  | 119 => ⟨S_, .i32⟩
  | 120 => ⟨S32x4096x1024, .i32⟩
  | 121 => ⟨S32x4096x1024, .i32⟩
  | 122 => ⟨S_, .i32⟩
  | 123 => ⟨S32x4096x1024, .i32⟩
  | 124 => ⟨S32x4096x1024, .i32⟩
  | 125 => ⟨S32x4096x1024, .i32⟩
  | 126 => ⟨S32x4096x1024, .i32⟩
  | 127 => ⟨S32x4096x1024, .i32⟩
  | _ => ⟨S32x4096x1024, .f32⟩

abbrev hbmTy0_2 (i : Nat) : BufTy := match i % 128 with
  | 0 => ⟨S32x4096x1024, .i32⟩
  | 1 => ⟨S32x4096x1024, .i32⟩
  | 2 => ⟨S32x4096x1024, .i32⟩
  | 3 => ⟨S_, .i32⟩
  | 4 => ⟨S32x4096x1024, .i32⟩
  | 5 => ⟨S32x4096x1024, .i32⟩
  | 6 => ⟨S32x4096x1024, .i32⟩
  | 7 => ⟨S_, .i32⟩
  | 8 => ⟨S32x4096x1024, .i32⟩
  | 9 => ⟨S32x4096x1024, .i32⟩
  | 10 => ⟨S_, .i32⟩
  | 11 => ⟨S32x4096x1024, .i32⟩
  | 12 => ⟨S32x4096x1024, .i32⟩
  | 13 => ⟨S32x4096x1024, .f32⟩
  | 14 => ⟨S_, .f32⟩
  | 15 => ⟨S32x4096x1024, .f32⟩
  | 16 => ⟨S32x4096x1024, .f32⟩
  | 17 => ⟨S1x1x1, .f32⟩
  | 18 => ⟨S32x4096x1024, .f32⟩
  | 19 => ⟨S32x4096x1024, .f32⟩
  | 20 => ⟨S32x4096x1024, .f32⟩
  | 21 => ⟨S32x4096x1024, .f32⟩
  | 22 => ⟨S32x4096x1024, .f32⟩
  | 23 => ⟨S32x4096x1024, .f32⟩
  | 24 => ⟨S32x4096x1024, .f32⟩
  | _ => ⟨S32x4096x1024, .f32⟩

abbrev hbmTy (i : Nat) : BufTy := match i / 128 with
  | 0 => hbmTy0_0 i
  | 1 => hbmTy0_1 i
  | 2 => hbmTy0_2 i
  | _ => ⟨S32x4096x1024, .f32⟩

abbrev bufTy : (tb : Table) → Fin (tcTables nBuf tb) → BufTy
  | .hbm, ⟨i, _⟩ => hbmTy i
  | _, _ => ⟨S32x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c : Ref sig .tc := ⟨.hbm, 24, rfl⟩
abbrev main_call0_v11 : Ref sig .tc := ⟨.hbm, 25, rfl⟩
abbrev main_call0_v12 : Ref sig .tc := ⟨.hbm, 26, rfl⟩
abbrev main_call0_c_0 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_c_2 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_call0_v0 : Ref sig .tc := ⟨.hbm, 40, rfl⟩
abbrev main_call0_call0_c : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_c_0 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c_1 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_2 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_c_3 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_v18 : Ref sig .tc := ⟨.hbm, 63, rfl⟩
abbrev main_call0_call0_v19 : Ref sig .tc := ⟨.hbm, 64, rfl⟩
abbrev main_call0_call0_v20 : Ref sig .tc := ⟨.hbm, 65, rfl⟩
abbrev main_call0_call0_c_4 : Ref sig .tc := ⟨.hbm, 66, rfl⟩
abbrev main_call0_call0_v21 : Ref sig .tc := ⟨.hbm, 67, rfl⟩
abbrev main_call0_call0_v22 : Ref sig .tc := ⟨.hbm, 68, rfl⟩
abbrev main_call0_call0_c_5 : Ref sig .tc := ⟨.hbm, 69, rfl⟩
abbrev main_call0_call0_v23 : Ref sig .tc := ⟨.hbm, 70, rfl⟩
abbrev main_call0_call0_v24 : Ref sig .tc := ⟨.hbm, 71, rfl⟩
abbrev main_call0_call0_v25 : Ref sig .tc := ⟨.hbm, 72, rfl⟩
abbrev main_call0_call0_v26 : Ref sig .tc := ⟨.hbm, 73, rfl⟩
abbrev main_call0_call0_v27 : Ref sig .tc := ⟨.hbm, 74, rfl⟩
abbrev main_call0_call0_c_6 : Ref sig .tc := ⟨.hbm, 75, rfl⟩
abbrev main_call0_call0_v28 : Ref sig .tc := ⟨.hbm, 76, rfl⟩
abbrev main_call0_call0_v29 : Ref sig .tc := ⟨.hbm, 77, rfl⟩
abbrev main_call0_call0_c_7 : Ref sig .tc := ⟨.hbm, 78, rfl⟩
abbrev main_call0_call0_v30 : Ref sig .tc := ⟨.hbm, 79, rfl⟩
abbrev main_call0_call0_v31 : Ref sig .tc := ⟨.hbm, 80, rfl⟩
abbrev main_call0_call0_v32 : Ref sig .tc := ⟨.hbm, 81, rfl⟩
abbrev main_call0_call0_v33 : Ref sig .tc := ⟨.hbm, 82, rfl⟩
abbrev main_call0_call0_v34 : Ref sig .tc := ⟨.hbm, 83, rfl⟩
abbrev main_call0_call0_v35 : Ref sig .tc := ⟨.hbm, 84, rfl⟩
abbrev main_call0_call0_v36 : Ref sig .tc := ⟨.hbm, 85, rfl⟩
abbrev main_call0_call0_v37 : Ref sig .tc := ⟨.hbm, 86, rfl⟩
abbrev main_call0_call0_c_8 : Ref sig .tc := ⟨.hbm, 87, rfl⟩
abbrev main_call0_call0_v38 : Ref sig .tc := ⟨.hbm, 88, rfl⟩
abbrev main_call0_call0_v39 : Ref sig .tc := ⟨.hbm, 89, rfl⟩
abbrev main_call0_call0_v40 : Ref sig .tc := ⟨.hbm, 90, rfl⟩
abbrev main_call0_call0_c_9 : Ref sig .tc := ⟨.hbm, 91, rfl⟩
abbrev main_call0_call0_v41 : Ref sig .tc := ⟨.hbm, 92, rfl⟩
abbrev main_call0_call0_v42 : Ref sig .tc := ⟨.hbm, 93, rfl⟩
abbrev main_call0_call0_c_10 : Ref sig .tc := ⟨.hbm, 94, rfl⟩
abbrev main_call0_call0_v43 : Ref sig .tc := ⟨.hbm, 95, rfl⟩
abbrev main_call0_call0_v44 : Ref sig .tc := ⟨.hbm, 96, rfl⟩
abbrev main_call0_call0_v45 : Ref sig .tc := ⟨.hbm, 97, rfl⟩
abbrev main_call0_call0_v46 : Ref sig .tc := ⟨.hbm, 98, rfl⟩
abbrev main_call0_call0_v47 : Ref sig .tc := ⟨.hbm, 99, rfl⟩
abbrev main_call0_call0_c_11 : Ref sig .tc := ⟨.hbm, 100, rfl⟩
abbrev main_call0_call0_v48 : Ref sig .tc := ⟨.hbm, 101, rfl⟩
abbrev main_call0_call0_v49 : Ref sig .tc := ⟨.hbm, 102, rfl⟩
abbrev main_call0_call0_c_12 : Ref sig .tc := ⟨.hbm, 103, rfl⟩
abbrev main_call0_call0_v50 : Ref sig .tc := ⟨.hbm, 104, rfl⟩
abbrev main_call0_call0_v51 : Ref sig .tc := ⟨.hbm, 105, rfl⟩
abbrev main_call0_call0_v52 : Ref sig .tc := ⟨.hbm, 106, rfl⟩
abbrev main_call0_call0_v53 : Ref sig .tc := ⟨.hbm, 107, rfl⟩
abbrev main_call0_call0_v54 : Ref sig .tc := ⟨.hbm, 108, rfl⟩
abbrev main_call0_call0_c_13 : Ref sig .tc := ⟨.hbm, 109, rfl⟩
abbrev main_call0_call0_v55 : Ref sig .tc := ⟨.hbm, 110, rfl⟩
abbrev main_call0_call0_v56 : Ref sig .tc := ⟨.hbm, 111, rfl⟩
abbrev main_call0_call0_c_14 : Ref sig .tc := ⟨.hbm, 112, rfl⟩
abbrev main_call0_call0_v57 : Ref sig .tc := ⟨.hbm, 113, rfl⟩
abbrev main_call0_call0_v58 : Ref sig .tc := ⟨.hbm, 114, rfl⟩
abbrev main_call0_call0_v59 : Ref sig .tc := ⟨.hbm, 115, rfl⟩
abbrev main_call0_call0_v60 : Ref sig .tc := ⟨.hbm, 116, rfl⟩
abbrev main_call0_call0_v61 : Ref sig .tc := ⟨.hbm, 117, rfl⟩
abbrev main_call0_call0_c_15 : Ref sig .tc := ⟨.hbm, 118, rfl⟩
abbrev main_call0_call0_v62 : Ref sig .tc := ⟨.hbm, 119, rfl⟩
abbrev main_call0_call0_v63 : Ref sig .tc := ⟨.hbm, 120, rfl⟩
abbrev main_call0_call0_c_16 : Ref sig .tc := ⟨.hbm, 121, rfl⟩
abbrev main_call0_call0_v64 : Ref sig .tc := ⟨.hbm, 122, rfl⟩
abbrev main_call0_call0_v65 : Ref sig .tc := ⟨.hbm, 123, rfl⟩
abbrev main_call0_call0_v66 : Ref sig .tc := ⟨.hbm, 124, rfl⟩
abbrev main_call0_call0_v67 : Ref sig .tc := ⟨.hbm, 125, rfl⟩
abbrev main_call0_call0_v68 : Ref sig .tc := ⟨.hbm, 126, rfl⟩
abbrev main_call0_call0_v69 : Ref sig .tc := ⟨.hbm, 127, rfl⟩
abbrev main_call0_call0_v70 : Ref sig .tc := ⟨.hbm, 128, rfl⟩
abbrev main_call0_call0_v71 : Ref sig .tc := ⟨.hbm, 129, rfl⟩
abbrev main_call0_call0_c_17 : Ref sig .tc := ⟨.hbm, 130, rfl⟩
abbrev main_call0_call0_v72 : Ref sig .tc := ⟨.hbm, 131, rfl⟩
abbrev main_call0_call0_v73 : Ref sig .tc := ⟨.hbm, 132, rfl⟩
abbrev main_call0_call0_v74 : Ref sig .tc := ⟨.hbm, 133, rfl⟩
abbrev main_call0_call0_c_18 : Ref sig .tc := ⟨.hbm, 134, rfl⟩
abbrev main_call0_call0_v75 : Ref sig .tc := ⟨.hbm, 135, rfl⟩
abbrev main_call0_call0_v76 : Ref sig .tc := ⟨.hbm, 136, rfl⟩
abbrev main_call0_call0_c_19 : Ref sig .tc := ⟨.hbm, 137, rfl⟩
abbrev main_call0_call0_v77 : Ref sig .tc := ⟨.hbm, 138, rfl⟩
abbrev main_call0_call0_v78 : Ref sig .tc := ⟨.hbm, 139, rfl⟩
abbrev main_call0_call0_v79 : Ref sig .tc := ⟨.hbm, 140, rfl⟩
abbrev main_call0_call0_v80 : Ref sig .tc := ⟨.hbm, 141, rfl⟩
abbrev main_call0_call0_v81 : Ref sig .tc := ⟨.hbm, 142, rfl⟩
abbrev main_call0_call0_c_20 : Ref sig .tc := ⟨.hbm, 143, rfl⟩
abbrev main_call0_call0_v82 : Ref sig .tc := ⟨.hbm, 144, rfl⟩
abbrev main_call0_call0_v83 : Ref sig .tc := ⟨.hbm, 145, rfl⟩
abbrev main_call0_call0_c_21 : Ref sig .tc := ⟨.hbm, 146, rfl⟩
abbrev main_call0_call0_v84 : Ref sig .tc := ⟨.hbm, 147, rfl⟩
abbrev main_call0_call0_v85 : Ref sig .tc := ⟨.hbm, 148, rfl⟩
abbrev main_call0_call0_v86 : Ref sig .tc := ⟨.hbm, 149, rfl⟩
abbrev main_call0_call0_v87 : Ref sig .tc := ⟨.hbm, 150, rfl⟩
abbrev main_call0_call0_v88 : Ref sig .tc := ⟨.hbm, 151, rfl⟩
abbrev main_call0_call0_c_22 : Ref sig .tc := ⟨.hbm, 152, rfl⟩
abbrev main_call0_call0_v89 : Ref sig .tc := ⟨.hbm, 153, rfl⟩
abbrev main_call0_call0_v90 : Ref sig .tc := ⟨.hbm, 154, rfl⟩
abbrev main_call0_call0_c_23 : Ref sig .tc := ⟨.hbm, 155, rfl⟩
abbrev main_call0_call0_v91 : Ref sig .tc := ⟨.hbm, 156, rfl⟩
abbrev main_call0_call0_v92 : Ref sig .tc := ⟨.hbm, 157, rfl⟩
abbrev main_call0_call0_v93 : Ref sig .tc := ⟨.hbm, 158, rfl⟩
abbrev main_call0_call0_v94 : Ref sig .tc := ⟨.hbm, 159, rfl⟩
abbrev main_call0_call0_v95 : Ref sig .tc := ⟨.hbm, 160, rfl⟩
abbrev main_call0_call0_c_24 : Ref sig .tc := ⟨.hbm, 161, rfl⟩
abbrev main_call0_call0_v96 : Ref sig .tc := ⟨.hbm, 162, rfl⟩
abbrev main_call0_call0_v97 : Ref sig .tc := ⟨.hbm, 163, rfl⟩
abbrev main_call0_call0_c_25 : Ref sig .tc := ⟨.hbm, 164, rfl⟩
abbrev main_call0_call0_v98 : Ref sig .tc := ⟨.hbm, 165, rfl⟩
abbrev main_call0_call0_v99 : Ref sig .tc := ⟨.hbm, 166, rfl⟩
abbrev main_call0_call0_v100 : Ref sig .tc := ⟨.hbm, 167, rfl⟩
abbrev main_call0_call0_v101 : Ref sig .tc := ⟨.hbm, 168, rfl⟩
abbrev main_call0_call0_v102 : Ref sig .tc := ⟨.hbm, 169, rfl⟩
abbrev main_call0_call0_v103 : Ref sig .tc := ⟨.hbm, 170, rfl⟩
abbrev main_call0_call0_v104 : Ref sig .tc := ⟨.hbm, 171, rfl⟩
abbrev main_call0_call0_v105 : Ref sig .tc := ⟨.hbm, 172, rfl⟩
abbrev main_call0_call0_c_26 : Ref sig .tc := ⟨.hbm, 173, rfl⟩
abbrev main_call0_call0_v106 : Ref sig .tc := ⟨.hbm, 174, rfl⟩
abbrev main_call0_call0_v107 : Ref sig .tc := ⟨.hbm, 175, rfl⟩
abbrev main_call0_call0_v108 : Ref sig .tc := ⟨.hbm, 176, rfl⟩
abbrev main_call0_call0_c_27 : Ref sig .tc := ⟨.hbm, 177, rfl⟩
abbrev main_call0_call0_v109 : Ref sig .tc := ⟨.hbm, 178, rfl⟩
abbrev main_call0_call0_v110 : Ref sig .tc := ⟨.hbm, 179, rfl⟩
abbrev main_call0_call0_c_28 : Ref sig .tc := ⟨.hbm, 180, rfl⟩
abbrev main_call0_call0_v111 : Ref sig .tc := ⟨.hbm, 181, rfl⟩
abbrev main_call0_call0_v112 : Ref sig .tc := ⟨.hbm, 182, rfl⟩
abbrev main_call0_call0_v113 : Ref sig .tc := ⟨.hbm, 183, rfl⟩
abbrev main_call0_call0_v114 : Ref sig .tc := ⟨.hbm, 184, rfl⟩
abbrev main_call0_call0_v115 : Ref sig .tc := ⟨.hbm, 185, rfl⟩
abbrev main_call0_call0_c_29 : Ref sig .tc := ⟨.hbm, 186, rfl⟩
abbrev main_call0_call0_v116 : Ref sig .tc := ⟨.hbm, 187, rfl⟩
abbrev main_call0_call0_v117 : Ref sig .tc := ⟨.hbm, 188, rfl⟩
abbrev main_call0_call0_c_30 : Ref sig .tc := ⟨.hbm, 189, rfl⟩
abbrev main_call0_call0_v118 : Ref sig .tc := ⟨.hbm, 190, rfl⟩
abbrev main_call0_call0_v119 : Ref sig .tc := ⟨.hbm, 191, rfl⟩
abbrev main_call0_call0_v120 : Ref sig .tc := ⟨.hbm, 192, rfl⟩
abbrev main_call0_call0_v121 : Ref sig .tc := ⟨.hbm, 193, rfl⟩
abbrev main_call0_call0_v122 : Ref sig .tc := ⟨.hbm, 194, rfl⟩
abbrev main_call0_call0_c_31 : Ref sig .tc := ⟨.hbm, 195, rfl⟩
abbrev main_call0_call0_v123 : Ref sig .tc := ⟨.hbm, 196, rfl⟩
abbrev main_call0_call0_v124 : Ref sig .tc := ⟨.hbm, 197, rfl⟩
abbrev main_call0_call0_c_32 : Ref sig .tc := ⟨.hbm, 198, rfl⟩
abbrev main_call0_call0_v125 : Ref sig .tc := ⟨.hbm, 199, rfl⟩
abbrev main_call0_call0_v126 : Ref sig .tc := ⟨.hbm, 200, rfl⟩
abbrev main_call0_call0_v127 : Ref sig .tc := ⟨.hbm, 201, rfl⟩
abbrev main_call0_call0_v128 : Ref sig .tc := ⟨.hbm, 202, rfl⟩
abbrev main_call0_call0_v129 : Ref sig .tc := ⟨.hbm, 203, rfl⟩
abbrev main_call0_call0_c_33 : Ref sig .tc := ⟨.hbm, 204, rfl⟩
abbrev main_call0_call0_v130 : Ref sig .tc := ⟨.hbm, 205, rfl⟩
abbrev main_call0_call0_v131 : Ref sig .tc := ⟨.hbm, 206, rfl⟩
abbrev main_call0_call0_c_34 : Ref sig .tc := ⟨.hbm, 207, rfl⟩
abbrev main_call0_call0_v132 : Ref sig .tc := ⟨.hbm, 208, rfl⟩
abbrev main_call0_call0_v133 : Ref sig .tc := ⟨.hbm, 209, rfl⟩
abbrev main_call0_call0_v134 : Ref sig .tc := ⟨.hbm, 210, rfl⟩
abbrev main_call0_call0_v135 : Ref sig .tc := ⟨.hbm, 211, rfl⟩
abbrev main_call0_call0_v136 : Ref sig .tc := ⟨.hbm, 212, rfl⟩
abbrev main_call0_call0_v137 : Ref sig .tc := ⟨.hbm, 213, rfl⟩
abbrev main_call0_call0_v138 : Ref sig .tc := ⟨.hbm, 214, rfl⟩
abbrev main_call0_call0_v139 : Ref sig .tc := ⟨.hbm, 215, rfl⟩
abbrev main_call0_call0_c_35 : Ref sig .tc := ⟨.hbm, 216, rfl⟩
abbrev main_call0_call0_v140 : Ref sig .tc := ⟨.hbm, 217, rfl⟩
abbrev main_call0_call0_v141 : Ref sig .tc := ⟨.hbm, 218, rfl⟩
abbrev main_call0_call0_v142 : Ref sig .tc := ⟨.hbm, 219, rfl⟩
abbrev main_call0_call0_c_36 : Ref sig .tc := ⟨.hbm, 220, rfl⟩
abbrev main_call0_call0_v143 : Ref sig .tc := ⟨.hbm, 221, rfl⟩
abbrev main_call0_call0_v144 : Ref sig .tc := ⟨.hbm, 222, rfl⟩
abbrev main_call0_call0_c_37 : Ref sig .tc := ⟨.hbm, 223, rfl⟩
abbrev main_call0_call0_v145 : Ref sig .tc := ⟨.hbm, 224, rfl⟩
abbrev main_call0_call0_v146 : Ref sig .tc := ⟨.hbm, 225, rfl⟩
abbrev main_call0_call0_v147 : Ref sig .tc := ⟨.hbm, 226, rfl⟩
abbrev main_call0_call0_v148 : Ref sig .tc := ⟨.hbm, 227, rfl⟩
abbrev main_call0_call0_v149 : Ref sig .tc := ⟨.hbm, 228, rfl⟩
abbrev main_call0_call0_c_38 : Ref sig .tc := ⟨.hbm, 229, rfl⟩
abbrev main_call0_call0_v150 : Ref sig .tc := ⟨.hbm, 230, rfl⟩
abbrev main_call0_call0_v151 : Ref sig .tc := ⟨.hbm, 231, rfl⟩
abbrev main_call0_call0_c_39 : Ref sig .tc := ⟨.hbm, 232, rfl⟩
abbrev main_call0_call0_v152 : Ref sig .tc := ⟨.hbm, 233, rfl⟩
abbrev main_call0_call0_v153 : Ref sig .tc := ⟨.hbm, 234, rfl⟩
abbrev main_call0_call0_v154 : Ref sig .tc := ⟨.hbm, 235, rfl⟩
abbrev main_call0_call0_v155 : Ref sig .tc := ⟨.hbm, 236, rfl⟩
abbrev main_call0_call0_v156 : Ref sig .tc := ⟨.hbm, 237, rfl⟩
abbrev main_call0_call0_c_40 : Ref sig .tc := ⟨.hbm, 238, rfl⟩
abbrev main_call0_call0_v157 : Ref sig .tc := ⟨.hbm, 239, rfl⟩
abbrev main_call0_call0_v158 : Ref sig .tc := ⟨.hbm, 240, rfl⟩
abbrev main_call0_call0_c_41 : Ref sig .tc := ⟨.hbm, 241, rfl⟩
abbrev main_call0_call0_v159 : Ref sig .tc := ⟨.hbm, 242, rfl⟩
abbrev main_call0_call0_v160 : Ref sig .tc := ⟨.hbm, 243, rfl⟩
abbrev main_call0_call0_v161 : Ref sig .tc := ⟨.hbm, 244, rfl⟩
abbrev main_call0_call0_v162 : Ref sig .tc := ⟨.hbm, 245, rfl⟩
abbrev main_call0_call0_v163 : Ref sig .tc := ⟨.hbm, 246, rfl⟩
abbrev main_call0_call0_c_42 : Ref sig .tc := ⟨.hbm, 247, rfl⟩
abbrev main_call0_call0_v164 : Ref sig .tc := ⟨.hbm, 248, rfl⟩
abbrev main_call0_call0_v165 : Ref sig .tc := ⟨.hbm, 249, rfl⟩
abbrev main_call0_call0_c_43 : Ref sig .tc := ⟨.hbm, 250, rfl⟩
abbrev main_call0_call0_v166 : Ref sig .tc := ⟨.hbm, 251, rfl⟩
abbrev main_call0_call0_v167 : Ref sig .tc := ⟨.hbm, 252, rfl⟩
abbrev main_call0_call0_v168 : Ref sig .tc := ⟨.hbm, 253, rfl⟩
abbrev main_call0_call0_v169 : Ref sig .tc := ⟨.hbm, 254, rfl⟩
abbrev main_call0_call0_v170 : Ref sig .tc := ⟨.hbm, 255, rfl⟩
abbrev main_call0_v23_0 : Ref sig .tc := ⟨.hbm, 256, rfl⟩
abbrev main_call0_call0_v172 : Ref sig .tc := ⟨.hbm, 257, rfl⟩
abbrev main_call0_call0_v173 : Ref sig .tc := ⟨.hbm, 258, rfl⟩
abbrev main_call0_call0_c_44 : Ref sig .tc := ⟨.hbm, 259, rfl⟩
abbrev main_call0_call0_v174 : Ref sig .tc := ⟨.hbm, 260, rfl⟩
abbrev main_call0_v23_1 : Ref sig .tc := ⟨.hbm, 261, rfl⟩
abbrev main_call0_v24 : Ref sig .tc := ⟨.hbm, 262, rfl⟩
abbrev main_call0_c_3 : Ref sig .tc := ⟨.hbm, 263, rfl⟩
abbrev main_call0_v25 : Ref sig .tc := ⟨.hbm, 264, rfl⟩
abbrev main_call0_v26 : Ref sig .tc := ⟨.hbm, 265, rfl⟩
abbrev main_call0_c_4 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_cst : Ref sig .tc := ⟨.hbm, 270, rfl⟩
abbrev main_call0_v30 : Ref sig .tc := ⟨.hbm, 271, rfl⟩
abbrev main_call0_v31 : Ref sig .tc := ⟨.hbm, 272, rfl⟩
abbrev main_call0_v32 : Ref sig .tc := ⟨.hbm, 273, rfl⟩
abbrev main_call0_v33 : Ref sig .tc := ⟨.hbm, 274, rfl⟩
abbrev main_call0_v34 : Ref sig .tc := ⟨.hbm, 275, rfl⟩
abbrev main_call0_v35 : Ref sig .tc := ⟨.hbm, 276, rfl⟩
abbrev main_call0_v36 : Ref sig .tc := ⟨.hbm, 277, rfl⟩
abbrev main_call0_v37 : Ref sig .tc := ⟨.hbm, 278, rfl⟩
abbrev main_v7 : Ref sig .tc := ⟨.hbm, 279, rfl⟩
abbrev main_v8 : Ref sig .tc := ⟨.hbm, 280, rfl⟩

abbrev nD : Nat := 1
abbrev τ : Topo := Topo.v7x

variable {F : FTy → Type} [FloatOps F]
-- ==== Proof.Threefry.lean ====
/- The random numbers of the problem as functions of words: twenty rounds of a two-word hash of the counter `(0, n)` under the key `(0, 42)`, the
   two result words combined, and the number in `[0, 1)` that the combined word names at `Ideal`. Nothing here mentions a program. -/
module

public import Idealize.ShloMosaic.PureOps.Ideal

@[expose] public section

noncomputable section

namespace Cert.Threefry

open Idealize.ShloMosaic

/-- A machine word. -/
abbrev W := BitVec 32

/-- The word rotated left by `r` places. -/
def rot (x : W) (r : Nat) : W := (x <<< r) ||| (x >>> (32 - r))

/-- One round of the hash: the first word becomes the sum, the second its rotation combined with the sum. -/
def mix (r : Nat) (p : W × W) : W × W := (p.1 + p.2, (p.1 + p.2) ^^^ rot p.2 r)

/-- Two key words added to the two state words. -/
def inject (a b : W) (p : W × W) : W × W := (p.1 + a, p.2 + b)

/-- The third key word: the first two, combined with the hash's constant. -/
def key2 : W := 466689008#32

/-- Rounds five to twenty and the five key additions, from the state after round four. -/
def finish (p : W × W) : W × W :=
  inject key2 (0#32 + 5#32) <| mix 6 <| mix 26 <| mix 15 <| mix 13 <|
    inject 42#32 (key2 + 4#32) <| mix 24 <| mix 16 <| mix 29 <| mix 17 <|
      inject 0#32 (42#32 + 3#32) <| mix 6 <| mix 26 <| mix 15 <| mix 13 <|
        inject key2 (0#32 + 2#32) <| mix 24 <| mix 16 <| mix 29 <| mix 17 <|
          inject 42#32 (key2 + 1#32) p

/-- The state after two rounds, from the second counter word with its key word added (the first word is zero). -/
def start (x : W) : W × W := mix 15 (mix 13 (0#32, x))

/-- The whole hash of the counter `(0, n)` under the key `(0, 42)`. -/
def words (n : W) : W × W := finish (mix 6 (mix 26 (start (n + 42#32))))

/-- The exponent of one with a word's upper twenty-three bits as fraction. -/
def unit (b : W) : W := (b >>> 9) ||| 1065353216#32

/-- The number drawn from a pair of words: the fraction that the combined words' upper bits make. -/
def draw (p : W × W) : Ideal .f32 := Ideal.ofBits .f32 (unit (p.1 ^^^ p.2)) - Ideal.ofBits .f32 0x3F800000#32

/-- The number drawn at position `n`. -/
def drawn (n : W) : Ideal .f32 := draw (words n)

/-! ## Rotations and combinations of words -/

/-- Rotating a combination of two words is combining their rotations. -/
theorem rot_xor (x y : W) (r : Nat) : rot (x ^^^ y) r = rot x r ^^^ rot y r ∨ 32 < r := by
  by_cases h : 32 < r
  · exact .inr h
  · left
    unfold rot
    apply BitVec.eq_of_getLsbD_eq
    intro i hi
    simp only [BitVec.getLsbD_or, BitVec.getLsbD_xor, BitVec.getLsbD_shiftLeft, BitVec.getLsbD_ushiftRight, hi, decide_true,
      Bool.true_and]
    by_cases h1 : i < r
    · simp [h1]
    · have : ∀ z : W, z.getLsbD (32 - r + i) = false := fun z => BitVec.getLsbD_of_ge z _ (by omega)
      simp [h1, this]

/-- The rotation by thirteen of a combination. -/
theorem rot_xor_13 (x y : W) : rot (x ^^^ y) 13 = rot x 13 ^^^ rot y 13 := (rot_xor x y 13).resolve_right (by decide)

/-- The rotation by fifteen of a combination. -/
theorem rot_xor_15 (x y : W) : rot (x ^^^ y) 15 = rot x 15 ^^^ rot y 15 := (rot_xor x y 15).resolve_right (by decide)

/-- A word below `2 ^ 20` added to a multiple of `2 ^ 20` is combined with it: no bit of the one meets a bit of the other. -/
theorem add_eq_xor (l off : W) (hl : l.toNat < 2 ^ 20) (ho : off.toNat % 2 ^ 20 = 0) : l + off = l ^^^ off := by
  have hand : l &&& off = 0#32 := by
    apply BitVec.eq_of_getLsbD_eq
    intro i hi
    simp only [BitVec.getLsbD_and, BitVec.getLsbD_zero]
    by_cases h : i < 20
    · have : off.getLsbD i = false := by
        have e : off.toNat.testBit i = (off.toNat % 2 ^ 20).testBit i := by rw [Nat.testBit_mod_two_pow]; simp [h]
        rw [BitVec.getLsbD, e, ho, Nat.zero_testBit]
      simp [this]
    · have : l.getLsbD i = false := by
        rw [BitVec.getLsbD]
        exact Nat.testBit_lt_two_pow (lt_of_lt_of_le hl (Nat.pow_le_pow_right (by decide) (by omega)))
      simp [this]
  rw [BitVec.add_eq_or_of_and_eq_zero l off hand]
  apply BitVec.eq_of_getLsbD_eq
  intro i hi
  have := congrArg (fun z : W => z.getLsbD i) hand
  simp only [BitVec.getLsbD_and, BitVec.getLsbD_zero] at this
  rw [BitVec.getLsbD_or, BitVec.getLsbD_xor]
  cases h1 : l.getLsbD i <;> cases h2 : off.getLsbD i <;> simp_all

/-- Two rounds taken apart into a part from `l` and a part from `off`, where the sum of the two is their combination. -/
theorem start_split (l off : W) (h : l + off = l ^^^ off) :
    start (l + off) =
      ((l + off) + ((rot l 13 ^^^ l) ^^^ (rot off 13 ^^^ off)),
        (rot (rot l 13 ^^^ l) 15 ^^^ ((l + off) + ((rot l 13 ^^^ l) ^^^ (rot off 13 ^^^ off)))) ^^^ rot (rot off 13 ^^^ off) 15) := by
  have e : (l + off) ^^^ rot (l + off) 13 = (rot l 13 ^^^ l) ^^^ (rot off 13 ^^^ off) := by
    rw [h, rot_xor_13]; ac_rfl
  simp only [start, mix, BitVec.zero_add, e, rot_xor_15]
  refine Prod.ext rfl ?_
  simp only; ac_rfl

/-- The two rounds of any word, in the order the direct computation writes them. -/
theorem start_direct (x : W) :
    start x = (x + (rot x 13 ^^^ x), rot (rot x 13 ^^^ x) 15 ^^^ (x + (rot x 13 ^^^ x))) := by
  simp only [start, mix, BitVec.zero_add]
  rw [BitVec.xor_comm x (rot x 13)]
  refine Prod.ext rfl ?_
  simp only; rw [BitVec.xor_comm]

/-! ## Counters as words -/

/-- A row's and a column's word make the word of the flat position. -/
theorem word_pos (r c : ℕ) : (BitVec.ofNat 32 r <<< 10 + BitVec.ofNat 32 c) + 42#32 = BitVec.ofNat 32 (r * 1024 + c) + 42#32 := by
  congr 1
  apply BitVec.eq_of_toNat_eq
  simp only [BitVec.toNat_add, BitVec.toNat_shiftLeft, BitVec.toNat_ofNat, Nat.shiftLeft_eq]
  omega

/-- A position's word and a point's offset make the word of the position in the array. -/
theorem word_counter (g b : ℕ) :
    (BitVec.ofNat 32 b + 42#32) + BitVec.ofNat 32 g * 1048576#32 = BitVec.ofNat 32 (g * 1048576 + b) + 42#32 := by
  have e : BitVec.ofNat 32 (g * 1048576 + b) = BitVec.ofNat 32 g * 1048576#32 + BitVec.ofNat 32 b :=
    (BitVec.ofNat_add _ _).trans (congrArg (· + BitVec.ofNat 32 b) (BitVec.ofNat_mul _ _))
  rw [e]
  generalize BitVec.ofNat 32 g * 1048576#32 = u
  generalize BitVec.ofNat 32 b = v
  rw [BitVec.add_assoc, BitVec.add_comm 42#32 u, ← BitVec.add_assoc, BitVec.add_comm v u]

/-- A position whose successor by forty-two is below `2 ^ 20`, as a word. -/
theorem word_low (b : ℕ) (h : b + 42 < 2 ^ 20) : (BitVec.ofNat 32 b + 42#32).toNat < 2 ^ 20 := by
  simp only [BitVec.toNat_add, BitVec.toNat_ofNat]
  omega

/-- A point's offset is a multiple of `2 ^ 20`. -/
theorem word_high (g : ℕ) : (BitVec.ofNat 32 g * 1048576#32).toNat % 2 ^ 20 = 0 := by
  have e : (1048576#32).toNat = 2 ^ 20 := by decide
  rw [BitVec.toNat_mul, e, Nat.mod_mod_of_dvd _ (Nat.pow_dvd_pow 2 (by decide)), Nat.mul_mod_left]

/-! ## The number drawn -/

/-- The pattern of one denotes one. -/
theorem one_bits : Ideal.ofBits .f32 0x3F800000#32 = 1 := by
  simp [Ideal.ofBits, Ideal.ieee, -EReal.coe_mul]; norm_num

/-- The pattern of zero denotes zero. -/
theorem zero_bits : Ideal.ofBits .f32 0x00000000#32 = 0 := by simp [Ideal.ofBits, Ideal.ieee]

/-- The exponent of one with any fraction denotes a number that is at least one. -/
theorem one_le_unit (b : W) : (1 : EReal) ≤ Ideal.ofBits .f32 (unit b) := by
  have hs : (unit b).extractLsb' 31 1 = 0#1 := by
    apply BitVec.eq_of_getLsbD_eq
    intro i hi
    have hi0 : i = 0 := by omega
    subst hi0
    have hb : b.getLsbD 40 = false := BitVec.getLsbD_of_ge b _ (by decide)
    simp [unit, BitVec.getLsbD_extractLsb', BitVec.getLsbD_or, BitVec.getLsbD_ushiftRight, hb]
  have he : (unit b).extractLsb' 23 8 = 127#8 := by
    apply BitVec.eq_of_getLsbD_eq
    intro i hi
    have hb : b.getLsbD (9 + (23 + i)) = false := BitVec.getLsbD_of_ge b _ (by omega)
    simp only [unit, BitVec.getLsbD_extractLsb', BitVec.getLsbD_or, BitVec.getLsbD_ushiftRight, hb, hi, decide_true, Bool.true_and,
      Bool.false_or]
    interval_cases i <;> rfl
  have hv : Ideal.ofBits .f32 (unit b)
      = ((((2 ^ 23 + ((unit b).extractLsb' 0 23).toNat : Nat) : ℝ) * (2 : ℝ) ^ (-23 : Int) : ℝ) : EReal) := by
    simp [Ideal.ofBits, Ideal.ieee, hs, he, -EReal.coe_mul]
  rw [hv, ← EReal.coe_one, EReal.coe_le_coe_iff]
  have hp : (2 : ℝ) ^ (-23 : Int) = 1 / 2 ^ 23 := by norm_num
  rw [hp, mul_one_div, le_div_iff₀ (by positivity)]
  push_cast
  have : (0 : ℝ) ≤ (((unit b).extractLsb' 0 23).toNat : ℝ) := Nat.cast_nonneg _
  linarith

/-- Scaling the drawn number to the interval from zero to one and clipping it below at zero changes nothing. -/
theorem clip_draw (b : W) :
    max (0 : EReal) ((Ideal.ofBits .f32 (unit b) - 1) * (1 - 0) + 0) = Ideal.ofBits .f32 (unit b) - 1 := by
  have h1 : (1 : EReal) - 0 = 1 := by simp
  rw [h1, mul_one, add_zero]
  refine max_eq_right ?_
  have := EReal.sub_le_sub (one_le_unit b) (le_refl (1 : EReal))
  rwa [show (1 : EReal) - 1 = 0 by rw [← EReal.coe_one, ← EReal.coe_sub]; simp] at this

end Cert.Threefry

end
-- ==== Proof.Rounds.lean ====
/- The kernel's arithmetic at one element: each round the body prints is a round of the hash on the element's two words, so that the block it stores is
   the block it loads plus numbers drawn, where the scratch blocks it loads hold what they are filled with. -/
module

public import Idealize.ShloMosaic.Lib.Pipeline.Value
public import proofs.«01_k».proof.Proof.Threefry
public import proofs.«01_k».proof.Proof.Gen.KernelIdeal.Skeleton

@[expose] public section

noncomputable section

namespace Cert.Rounds

open Idealize.ShloMosaic Cert.KernelIdeal Cert.KernelIdeal.Gen Cert.Threefry

/-- A block of words. -/
abbrev B := IVec S1024x1024 32
/-- The corner's rectangle of words. -/
abbrev T := IVec S8x128 32

/-- The word a grid point adds to every counter: its index times `2 ^ 20`. -/
def offset (i : grid0.Coords) : W := BitVec.ofNat 32 (i 0).val * 1048576#32

/-- The first two rounds at an element, from the three scratch blocks' words there. -/
theorem start_at (i : grid0.Coords) (l p q : B) (y : S1024x1024.Idx) (hp : p y = rot (l y) 13 ^^^ l y) (hq : q y = rot (rot (l y) 13 ^^^ l y) 15)
    (h : l y + offset i = l y ^^^ offset i) :
    start (l y + offset i) = (k0_pay7 (F := Ideal) i l p y, k0_pay8 (F := Ideal) i l p q y) := by
  rw [start_split _ _ h, ← hq, ← hp]; rfl

/-- Rounds three and four at an element. -/
theorem part1_at (i : grid0.Coords) (l p q : B) (y : S1024x1024.Idx) :
    (mix 6 (mix 26 (k0_pay7 (F := Ideal) i l p y, k0_pay8 (F := Ideal) i l p q y)))
      = (k0_pay12 (F := Ideal) i l p q y, k0_pay13 (F := Ideal) i l p q y) := by
  have h1 : (mix 26 (k0_pay7 (F := Ideal) i l p y, k0_pay8 (F := Ideal) i l p q y)) = (k0_pay10 (F := Ideal) i l p q y, k0_pay11 (F := Ideal) i l p q y) := rfl
  have h2 : (mix 6 (k0_pay10 (F := Ideal) i l p q y, k0_pay11 (F := Ideal) i l p q y)) = (k0_pay12 (F := Ideal) i l p q y, k0_pay13 (F := Ideal) i l p q y) := rfl
  rw [h1, h2]

/-- Rounds five to nine at an element, with the key additions between. -/
theorem part2_at (a b : B) (y : S1024x1024.Idx) :
    (mix 13 <| inject key2 (0#32 + 2#32) <| mix 24 (mix 16 (mix 29 (mix 17 <| inject 42#32 (key2 + 1#32) <| (a y, b y)))))
      = (k0_pay23 a b 42#32 y, k0_pay24 a b 42#32 y) := by
  have h1 : (mix 17 <| inject 42#32 (key2 + 1#32) <| (a y, b y)) = (k0_pay15 a b 42#32 y, k0_pay16 a b 42#32 y) := rfl
  have h2 : (mix 29 (k0_pay15 a b 42#32 y, k0_pay16 a b 42#32 y)) = (k0_pay17 a b 42#32 y, k0_pay18 a b 42#32 y) := rfl
  have h3 : (mix 16 (k0_pay17 a b 42#32 y, k0_pay18 a b 42#32 y)) = (k0_pay19 a b 42#32 y, k0_pay20 a b 42#32 y) := rfl
  have h4 : (mix 13 <| inject key2 (0#32 + 2#32) <| mix 24 (k0_pay19 a b 42#32 y, k0_pay20 a b 42#32 y)) = (k0_pay23 a b 42#32 y, k0_pay24 a b 42#32 y) := rfl
  rw [h1, h2, h3, h4]

/-- Rounds ten to fifteen at an element. -/
theorem part3_at (a b : B) (y : S1024x1024.Idx) :
    (mix 16 (mix 29 (mix 17 <| inject 0#32 (42#32 + 3#32) <| mix 6 (mix 26 (mix 15 (a y, b y))))))
      = (k0_pay35 a b y, k0_pay38 (k0_pay35 a b) (k0_pay36 a b) (k0_pay37 a b) y) := by
  have h1 : (mix 15 (a y, b y)) = (k0_pay25 a b y, k0_pay26 a b y) := rfl
  have h2 : (mix 26 (k0_pay25 a b y, k0_pay26 a b y)) = (k0_pay27 a b y, k0_pay28 a b y) := rfl
  have h3 : (mix 17 <| inject 0#32 (42#32 + 3#32) <| mix 6 (k0_pay27 a b y, k0_pay28 a b y)) = (k0_pay31 a b y, k0_pay32 a b y) := rfl
  have h4 : (mix 29 (k0_pay31 a b y, k0_pay32 a b y)) = (k0_pay33 a b y, k0_pay34 a b y) := rfl
  have h5 : (mix 16 (k0_pay33 a b y, k0_pay34 a b y)) = (k0_pay35 a b y, k0_pay38 (k0_pay35 a b) (k0_pay36 a b) (k0_pay37 a b) y) := rfl
  rw [h1, h2, h3, h4, h5]

/-- Rounds sixteen to twenty at an element. -/
theorem part4_at (a b c : B) (y : S1024x1024.Idx) :
    (inject key2 (0#32 + 5#32) <| mix 6 (mix 26 (mix 15 (mix 13 <| inject 42#32 (key2 + 4#32) <| mix 24 (a y, k0_pay38 a b c y)))))
      = (k0_pay49 a b c y, k0_pay48 a b c y + (0#32 + 5#32)) := by
  have h1 : (mix 13 <| inject 42#32 (key2 + 4#32) <| mix 24 (a y, k0_pay38 a b c y)) = (k0_pay41 a b c y, k0_pay42 a b c y) := rfl
  have h2 : (mix 15 (k0_pay41 a b c y, k0_pay42 a b c y)) = (k0_pay43 a b c y, k0_pay44 a b c y) := rfl
  have h3 : (mix 26 (k0_pay43 a b c y, k0_pay44 a b c y)) = (k0_pay45 a b c y, k0_pay46 a b c y) := rfl
  have h4 : (inject key2 (0#32 + 5#32) <| mix 6 (k0_pay45 a b c y, k0_pay46 a b c y)) = (k0_pay49 a b c y, k0_pay48 a b c y + (0#32 + 5#32)) := rfl
  rw [h1, h2, h3, h4]

/-- The block's words after part one, by the three scratch blocks. -/
abbrev b31 (i : grid0.Coords) (l p q : B) : B := k0_pay12 (F := Ideal) i l p q
/-- The second words after part one. -/
abbrev b37 (i : grid0.Coords) (l p q : B) : B := k0_pay13 (F := Ideal) i l p q
/-- The first words after part two. -/
abbrev b76 (i : grid0.Coords) (l p q : B) : B := k0_pay23 (b31 i l p q) (b37 i l p q) 42#32
/-- The second words after part two. -/
abbrev b82 (i : grid0.Coords) (l p q : B) : B := k0_pay24 (b31 i l p q) (b37 i l p q) 42#32
/-- The first words after part three. -/
abbrev b123 (i : grid0.Coords) (l p q : B) : B := k0_pay35 (b76 i l p q) (b82 i l p q)
/-- One half of the rotated words after part three. -/
abbrev b125 (i : grid0.Coords) (l p q : B) : B := k0_pay36 (b76 i l p q) (b82 i l p q)
/-- The other half of the rotated words after part three. -/
abbrev b127 (i : grid0.Coords) (l p q : B) : B := k0_pay37 (b76 i l p q) (b82 i l p q)
/-- The second words after part four. -/
abbrev b169 (i : grid0.Coords) (l p q : B) : B := k0_pay48 (b123 i l p q) (b125 i l p q) (b127 i l p q)
/-- The first words after part four. -/
abbrev b171 (i : grid0.Coords) (l p q : B) : B := k0_pay49 (b123 i l p q) (b125 i l p q) (b127 i l p q)
/-- The block a point stores, from the scratch blocks and the block it loads. -/
abbrev block (i : grid0.Coords) (l p q : B) (x : FVec Ideal S1024x1024 .f32) : FVec Ideal S1024x1024 .f32 :=
  k0_pay50 (k0_pay9 x) (b169 i l p q) (b171 i l p q) 0#32 5#32

/-- The whole hash at an element. -/
theorem finish_at (i : grid0.Coords) (l p q : B) (y : S1024x1024.Idx) (hp : p y = rot (l y) 13 ^^^ l y) (hq : q y = rot (rot (l y) 13 ^^^ l y) 15)
    (h : l y + offset i = l y ^^^ offset i) :
    finish (mix 6 (mix 26 (start (l y + offset i)))) = (b171 i l p q y, b169 i l p q y + (0#32 + 5#32)) := by
  rw [start_at i l p q y hp hq h, part1_at, finish, part2_at, part3_at, part4_at]

/-- The last step at an element: the two words combined, the number they draw, and its sum with the element loaded. -/
theorem pay50_at (x : FVec Ideal S1024x1024 .f32) (a b : B) (y : S1024x1024.Idx) :
    k0_pay50 x a b 0#32 5#32 y = x y + draw (b y, a y + (0#32 + 5#32)) := rfl

/-- The last step at an element of the corner. -/
theorem pay1_at (x : FVec Ideal S8x128 .f32) (a b : T) (k : W) (y : S8x128.Idx) :
    k0_pay1 x a b k y = x y + draw (inject k (0#32 + 5#32) (a y, b y)) := rfl

/-- The block stored at an element: the element loaded plus the number that the element's words draw. -/
theorem block_at (i : grid0.Coords) (l p q : B) (x : FVec Ideal S1024x1024 .f32) (y : S1024x1024.Idx) (hp : p y = rot (l y) 13 ^^^ l y)
    (hq : q y = rot (rot (l y) 13 ^^^ l y) 15) (h : l y + offset i = l y ^^^ offset i) :
    block i l p q x y = x y + draw (finish (mix 6 (mix 26 (start (l y + offset i))))) := by
  rw [finish_at i l p q y hp hq h]
  have hx : k0_pay9 x = x := by unfold k0_pay9; exact shapeCast_self x _
  rw [block, hx, pay50_at]

/-- The first two rounds at an element of the corner. -/
theorem corner_start_at (o : W) (l : T) (y : S8x128.Idx) : start (l y + o) = (k0_pay53 (F := Ideal) o l y, k0_pay54 (F := Ideal) o l y) := by
  rw [start_direct]; rfl

/-- Round three at an element of the corner. -/
theorem corner5_at (o : W) (l : T) (y : S8x128.Idx) :
    (mix 26 (k0_pay53 (F := Ideal) o l y, k0_pay54 (F := Ideal) o l y)) = (k0_pay56 (F := Ideal) o l y, k0_pay57 (F := Ideal) o l y) := rfl

/-- The corner's words after part five, by its counters. -/
abbrev c209 (o : W) (l : T) : T := k0_pay57 (F := Ideal) o l
/-- The first words after part five. -/
abbrev c210 (o : W) (l : T) : T := k0_pay58 (F := Ideal) o l
/-- One half of the rotated words after part five. -/
abbrev c212 (o : W) (l : T) : T := k0_pay59 (F := Ideal) o l
/-- A block of words after part six. -/
abbrev c254 (o : W) (l : T) : T := k0_pay69 (c209 o l) (c210 o l) (c212 o l) k0_pay60
/-- A block of words after part six. -/
abbrev c255 (o : W) (l : T) : T := k0_pay70 (c209 o l) (c210 o l) (c212 o l) k0_pay60
/-- A block of words after part six. -/
abbrev c257 (o : W) (l : T) : T := k0_pay71 (c209 o l) (c210 o l) (c212 o l) k0_pay60
/-- A block of words after part seven. -/
abbrev c301 (o : W) (l : T) : T := k0_pay82 (c254 o l) (c255 o l) (c257 o l) 19#32
/-- A block of words after part seven. -/
abbrev c302 (o : W) (l : T) : T := k0_pay83 (c254 o l) (c255 o l) (c257 o l) 19#32
/-- A block of words after part eight. -/
abbrev c342 (o : W) (l : T) : T := k0_pay94 (c301 o l) (c302 o l) k0_pay84
/-- A block of words after part eight. -/
abbrev c348 (o : W) (l : T) : T := k0_pay95 (c301 o l) (c302 o l) k0_pay84
/-- The rectangle a point stores over the block's corner, from the counters' rectangle and the one it loads. -/
abbrev corner (o : W) (l : T) (x : FVec Ideal S8x128 .f32) : FVec Ideal S8x128 .f32 := k0_pay1 (k0_pay55 x) (c342 o l) (c348 o l) 466689008#32

/-- Rounds four to nine at an element of the corner. -/
theorem corner6_at (o : W) (l : T) (y : S8x128.Idx) :
    (mix 13 <| inject key2 (0#32 + 2#32) <| mix 24 (mix 16 (mix 29 (mix 17 <| inject 42#32 (key2 + 1#32) <| mix 6 (k0_pay56 (F := Ideal) o l y, k0_pay57 (F := Ideal) o l y)))))
      = (k0_pay70 (c209 o l) (c210 o l) (c212 o l) k0_pay60 y, k0_pay72 (c254 o l) (c255 o l) (c257 o l) 19#32 y) := by
  have h1 : (mix 17 <| inject 42#32 (key2 + 1#32) <| mix 6 (k0_pay56 (F := Ideal) o l y, k0_pay57 (F := Ideal) o l y)) = (k0_pay62 (c209 o l) (c210 o l) (c212 o l) k0_pay60 y, k0_pay63 (c209 o l) (c210 o l) (c212 o l) k0_pay60 y) := rfl
  have h2 : (mix 29 (k0_pay62 (c209 o l) (c210 o l) (c212 o l) k0_pay60 y, k0_pay63 (c209 o l) (c210 o l) (c212 o l) k0_pay60 y)) = (k0_pay64 (c209 o l) (c210 o l) (c212 o l) k0_pay60 y, k0_pay65 (c209 o l) (c210 o l) (c212 o l) k0_pay60 y) := rfl
  have h3 : (mix 16 (k0_pay64 (c209 o l) (c210 o l) (c212 o l) k0_pay60 y, k0_pay65 (c209 o l) (c210 o l) (c212 o l) k0_pay60 y)) = (k0_pay66 (c209 o l) (c210 o l) (c212 o l) k0_pay60 y, k0_pay67 (c209 o l) (c210 o l) (c212 o l) k0_pay60 y) := rfl
  have h4 : (mix 13 <| inject key2 (0#32 + 2#32) <| mix 24 (k0_pay66 (c209 o l) (c210 o l) (c212 o l) k0_pay60 y, k0_pay67 (c209 o l) (c210 o l) (c212 o l) k0_pay60 y)) = (k0_pay70 (c209 o l) (c210 o l) (c212 o l) k0_pay60 y, k0_pay72 (c254 o l) (c255 o l) (c257 o l) 19#32 y) := rfl
  rw [h1, h2, h3, h4]

/-- Rounds ten to fourteen at an element of the corner. -/
theorem corner7_at (o : W) (l : T) (y : S8x128.Idx) :
    (mix 29 (mix 17 <| inject 0#32 (42#32 + 3#32) <| mix 6 (mix 26 (mix 15 (c255 o l y, k0_pay72 (c254 o l) (c255 o l) (c257 o l) 19#32 y)))))
      = (k0_pay81 (c254 o l) (c255 o l) (c257 o l) 19#32 y, k0_pay82 (c254 o l) (c255 o l) (c257 o l) 19#32 y) := by
  have h1 : (mix 15 (c255 o l y, k0_pay72 (c254 o l) (c255 o l) (c257 o l) 19#32 y)) = (k0_pay73 (c254 o l) (c255 o l) (c257 o l) 19#32 y, k0_pay74 (c254 o l) (c255 o l) (c257 o l) 19#32 y) := rfl
  have h2 : (mix 26 (k0_pay73 (c254 o l) (c255 o l) (c257 o l) 19#32 y, k0_pay74 (c254 o l) (c255 o l) (c257 o l) 19#32 y)) = (k0_pay75 (c254 o l) (c255 o l) (c257 o l) 19#32 y, k0_pay76 (c254 o l) (c255 o l) (c257 o l) 19#32 y) := rfl
  have h3 : (mix 17 <| inject 0#32 (42#32 + 3#32) <| mix 6 (k0_pay75 (c254 o l) (c255 o l) (c257 o l) 19#32 y, k0_pay76 (c254 o l) (c255 o l) (c257 o l) 19#32 y)) = (k0_pay79 (c254 o l) (c255 o l) (c257 o l) 19#32 y, k0_pay80 (c254 o l) (c255 o l) (c257 o l) 19#32 y) := rfl
  have h4 : (mix 29 (k0_pay79 (c254 o l) (c255 o l) (c257 o l) 19#32 y, k0_pay80 (c254 o l) (c255 o l) (c257 o l) 19#32 y)) = (k0_pay81 (c254 o l) (c255 o l) (c257 o l) 19#32 y, k0_pay82 (c254 o l) (c255 o l) (c257 o l) 19#32 y) := rfl
  rw [h1, h2, h3, h4]

/-- Rounds fifteen to twenty at an element of the corner. -/
theorem corner8_at (o : W) (l : T) (y : S8x128.Idx) :
    (mix 6 (mix 26 (mix 15 (mix 13 <| inject 42#32 (key2 + 4#32) <| mix 24 (mix 16 (k0_pay81 (c254 o l) (c255 o l) (c257 o l) 19#32 y, c301 o l y))))))
      = (c342 o l y, c348 o l y) := by
  have h1 : (mix 16 (k0_pay81 (c254 o l) (c255 o l) (c257 o l) 19#32 y, c301 o l y)) = (c302 o l y, k0_pay85 (c301 o l) (c302 o l) k0_pay84 y) := rfl
  have h2 : (mix 13 <| inject 42#32 (key2 + 4#32) <| mix 24 (c302 o l y, k0_pay85 (c301 o l) (c302 o l) k0_pay84 y)) = (k0_pay88 (c301 o l) (c302 o l) k0_pay84 y, k0_pay89 (c301 o l) (c302 o l) k0_pay84 y) := rfl
  have h3 : (mix 15 (k0_pay88 (c301 o l) (c302 o l) k0_pay84 y, k0_pay89 (c301 o l) (c302 o l) k0_pay84 y)) = (k0_pay90 (c301 o l) (c302 o l) k0_pay84 y, k0_pay91 (c301 o l) (c302 o l) k0_pay84 y) := rfl
  have h4 : (mix 26 (k0_pay90 (c301 o l) (c302 o l) k0_pay84 y, k0_pay91 (c301 o l) (c302 o l) k0_pay84 y)) = (k0_pay92 (c301 o l) (c302 o l) k0_pay84 y, k0_pay93 (c301 o l) (c302 o l) k0_pay84 y) := rfl
  have h5 : (mix 6 (k0_pay92 (c301 o l) (c302 o l) k0_pay84 y, k0_pay93 (c301 o l) (c302 o l) k0_pay84 y)) = (c342 o l y, c348 o l y) := rfl
  rw [h1, h2, h3, h4, h5]

/-- The whole hash at an element of the corner. -/
theorem corner_finish_at (o : W) (l : T) (y : S8x128.Idx) :
    finish (mix 6 (mix 26 (start (l y + o)))) = inject key2 (0#32 + 5#32) (c342 o l y, c348 o l y) := by
  rw [corner_start_at, corner5_at, finish, corner6_at, corner7_at, corner8_at]

/-- The corner stored at an element: the element loaded plus the number that the element's words draw. -/
theorem corner_at (o : W) (l : T) (x : FVec Ideal S8x128 .f32) (y : S8x128.Idx) :
    corner o l x y = x y + draw (finish (mix 6 (mix 26 (start (l y + o))))) := by
  rw [corner_finish_at]
  have hx : k0_pay55 x = x := by unfold k0_pay55; exact shapeCast_self x _
  rw [corner, hx, pay1_at, key2]

end Cert.Rounds

end
-- ==== Proof.Points.lean ====
/- What the kernel leaves at each grid point: the scratch blocks hold the first words of every point's hashes from the first point on, and the output block
   is the input block plus the numbers drawn at the block's flat positions. -/
module

public import Idealize.ShloMosaic.Lib.Pipeline.ValueKit
public import Idealize.ShloMosaic.Lib.Pipeline.ReadBack
public import proofs.«01_k».proof.Proof.Rounds
public import proofs.«01_k».proof.Proof.Gen.KernelIdeal.Frame

@[expose] public section

set_option maxRecDepth 16384

noncomputable section

namespace Cert.Points

open Idealize.ShloMosaic Idealize.ShloMosaic.TcCoe Idealize.SL.Sem Cert.KernelIdeal Cert.KernelIdeal.Gen Cert.Threefry Cert.Rounds

variable (m : (ℓ : Loc nD τ sig) → Buf (Elt Ideal) ℓ)

/-- A piece over a rectangle of a block on top of a piece over the whole block, read at an element: the upper piece where the rectangle is, the lower
    elsewhere. -/
theorem canon_two {off size : Fin S1024x1024.rank → ℕ} (inb : ∀ a, off a + size a ≤ S1024x1024.size a)
    (inb0 : ∀ a, (![0, 0] : Fin S1024x1024.rank → ℕ) a + S1024x1024.size a ≤ S1024x1024.size a)
    (w : (Rect.unit off size inb).shape.Idx → Elt Ideal .f32) (b : S1024x1024.Idx → Elt Ideal .f32) (y : S1024x1024.Idx) (v : Elt Ideal .f32)
    (hw : ∀ z, y = (Rect.unit off size inb).idx z → w z = v)
    (hb : (¬ ∀ a, off a ≤ (y a : ℕ) ∧ (y a : ℕ) < off a + size a) → b y = v) :
    View.canon (Val := Elt Ideal) (e := .f32) [⟨Rect.unit off size inb, w⟩, ⟨Rect.unit ![0, 0] S1024x1024.size inb0, b⟩] y = v := by
  by_cases h : y ∈ (Rect.unit off size inb).set
  · obtain ⟨z, hz⟩ := (Rect.unit off size inb).exists_idx_of_mem h
    rw [← hz]
    exact (View.canon_cons_emb _ w _ z).trans (hw z hz.symm)
  · rw [View.canon_cons_of_not_mem _ _ h, View.canon_cons_unit_lit inb0 b [] (by decide)]
    exact hb fun h' => h (Rect.mem_set_unit.2 h')

/-- The first scratch block after the first point. -/
theorem first0 (c : Dev nD) (t : Fin cfg0.N) (h0 : t.val % 128 = 0) : (outsAt0 m c t.val t.isLt).2.1 = k0_pay4 := by
  rw [outsAt0_A m c t h0]; frame_out
/-- The second scratch block after the first point. -/
theorem first1 (c : Dev nD) (t : Fin cfg0.N) (h0 : t.val % 128 = 0) : (outsAt0 m c t.val t.isLt).2.2.1 = k0_pay5 := by
  rw [outsAt0_A m c t h0]; frame_out
/-- The third scratch block after the first point. -/
theorem first2 (c : Dev nD) (t : Fin cfg0.N) (h0 : t.val % 128 = 0) : (outsAt0 m c t.val t.isLt).2.2.2 = k0_pay6 := by
  rw [outsAt0_A m c t h0]; frame_out

/-- The scratch blocks after any point: what the first point fills them with. -/
theorem held (c : Dev nD) : ∀ (n : ℕ) (h : n < cfg0.N),
    (outsAt0 m c n h).2.1 = k0_pay4 ∧ (outsAt0 m c n h).2.2.1 = k0_pay5 ∧ (outsAt0 m c n h).2.2.2 = k0_pay6 := by
  intro n
  induction n with
  | zero => exact fun h => ⟨first0 m c ⟨0, h⟩ rfl, first1 m c ⟨0, h⟩ rfl, first2 m c ⟨0, h⟩ rfl⟩
  | succ n ih =>
    intro h
    by_cases h0 : (n + 1) % 128 = 0
    · exact ⟨first0 m c ⟨n + 1, h⟩ h0, first1 m c ⟨n + 1, h⟩ h0, first2 m c ⟨n + 1, h⟩ h0⟩
    · have e := outsAt0_B m c ⟨n + 1, h⟩ h0
      have p := ih (Nat.lt_of_succ_lt h)
      rw [show outsAt0 m c (n + 1) h = _ from e]
      exact p

/-- The flat position of an element in its block. -/
def pos (y : S1024x1024.Idx) : ℕ := (y 0).val * 1024 + (y 1).val

/-- The first scratch block's word at an element: its flat position plus forty-two. -/
theorem pay4_at (y : S1024x1024.Idx) : k0_pay4 y = BitVec.ofNat 32 (pos y) + 42#32 := by
  have h4 : k0_pay4 = k0_pay2 := by unfold k0_pay4; exact shapeCast_self _ _
  have h2 : k0_pay2 y = (IntOp.shli .vector (iota .tc S1024x1024 32 [0] iota_S1024x1024_d0_w32 y) 10#32
      + iota .tc S1024x1024 32 [1] iota_S1024x1024_d1_w32 y) + 42#32 := rfl
  have hs : ∀ x : W, IntOp.shli .vector x 10#32 = x <<< 10 := fun _ => rfl
  rw [h4, h2, iota_single_apply, iota_single_apply, hs]
  exact word_pos _ _

/-- The second scratch block's word at an element, by the first's. -/
theorem pay5_at (y : S1024x1024.Idx) : k0_pay5 y = rot (k0_pay4 y) 13 ^^^ k0_pay4 y := by
  have h4 : k0_pay4 = k0_pay2 := by unfold k0_pay4; exact shapeCast_self _ _
  have h5 : k0_pay5 = k0_pay3 := by unfold k0_pay5; exact shapeCast_self _ _
  rw [h4, h5]; rfl

/-- The third scratch block's word at an element, by the first's. -/
theorem pay6_at (y : S1024x1024.Idx) : k0_pay6 y = rot (rot (k0_pay4 y) 13 ^^^ k0_pay4 y) 15 := by
  have h4 : k0_pay4 = k0_pay2 := by unfold k0_pay4; exact shapeCast_self _ _
  rw [h4]; unfold k0_pay6; rw [shapeCast_self]; rfl

/-- The counter of an element of a point's block, with the key word added. -/
theorem counter_at (i : grid0.Coords) (y : S1024x1024.Idx) :
    k0_pay4 y + offset i = BitVec.ofNat 32 ((i 0).val * 1048576 + pos y) + 42#32 := by
  rw [pay4_at]; exact word_counter _ _

/-- Off the corner an element's counter within the block, with the key word added, does not reach `2 ^ 20`: adding the point's offset is combining. -/
theorem counter_xor (i : grid0.Coords) (y : S1024x1024.Idx) (h : (y 0).val < 1016 ∨ (y 1).val < 896) :
    k0_pay4 y + offset i = k0_pay4 y ^^^ offset i := by
  have b0 : (y 0).val < 1024 := (y 0).isLt
  have b1 : (y 1).val < 1024 := (y 1).isLt
  refine add_eq_xor _ _ ?_ (word_high _)
  rw [pay4_at]
  exact word_low _ (by unfold pos; omega)

/-- A block stored over the whole output block with the corner's rectangle stored over it, read at an element. -/
theorem stored_at (i : grid0.Coords) (x : FVec Ideal S1024x1024 .f32)
    (inb : ∀ a, (![1016, 896] : Fin S1024x1024.rank → ℕ) a + (![8, 128] : Fin S1024x1024.rank → ℕ) a ≤ S1024x1024.size a)
    (inb0 : ∀ a, (![0, 0] : Fin S1024x1024.rank → ℕ) a + S1024x1024.size a ≤ S1024x1024.size a) (y : S1024x1024.Idx) :
    View.canon (Val := Elt Ideal) (e := .f32)
      [⟨Rect.unit ![1016, 896] ![8, 128] inb,
          corner (Scalar.muli (BitVec.ofNat 32 (i 0).val) 1048576#32) (View.ld (Val := Elt Ideal) (e' := .i32) k0_pay4 (Rect.unit (s := S1024x1024) ![1016, 896] ![8, 128] inb))
            (View.ld (Val := Elt Ideal) (e' := .f32) x (Rect.unit (s := S1024x1024) ![1016, 896] ![8, 128] inb))⟩,
        ⟨Rect.unit ![0, 0] S1024x1024.size inb0, block i k0_pay4 k0_pay5 k0_pay6 x⟩] y
      = x y + drawn (BitVec.ofNat 32 ((i 0).val * 1048576 + pos y)) := by
  refine canon_two inb inb0 _ _ y _ (fun z hz => ?_) fun h => ?_
  · refine (corner_at _ _ _ z).trans ?_
    rw [View.ld_apply, View.ld_apply, ← hz, drawn, words, ← counter_at]
    rfl
  · have h' : (y 0).val < 1016 ∨ (y 1).val < 896 := by
      by_contra hc
      have b0 : (y 0).val < 1024 := (y 0).isLt
      have b1 : (y 1).val < 1024 := (y 1).isLt
      refine h fun a => ?_
      fin_cases a
      · exact ⟨show 1016 ≤ (y 0).val by omega, show (y 0).val < 1016 + 8 by omega⟩
      · exact ⟨show 896 ≤ (y 1).val by omega, show (y 1).val < 896 + 128 by omega⟩
    refine (block_at i _ _ _ x y (pay5_at y) (pay6_at y) (counter_xor i y h')).trans ?_
    rw [drawn, words, ← counter_at]

/-- The input block at a point. -/
abbrev xblk (c : Dev nD) (t : Fin cfg0.N) : FVec Ideal S1024x1024 .f32 := iblk m c 0 t

/-- The output block after the first point. -/
theorem out_first (c : Dev nD) (t : Fin cfg0.N) (h0 : t.val % 128 = 0) (y : S1024x1024.Idx) :
    (outsAt0 m c t.val t.isLt).1 y = xblk m c t y + drawn (BitVec.ofNat 32 ((grid0.coords t 0).val * 1048576 + pos y)) := by
  rw [outsAt0_A m c t h0]; frame_out
  simp (disch := decide) only [View.readCov_fill]
  exact stored_at (grid0.coords t) (iblk m c 0 t) _ _ y

/-- The output block after a later point. -/
theorem out_later (c : Dev nD) (t : Fin cfg0.N) (h0 : ¬ t.val % 128 = 0) (y : S1024x1024.Idx) :
    (outsAt0 m c t.val t.isLt).1 y = xblk m c t y + drawn (BitVec.ofNat 32 ((grid0.coords t 0).val * 1048576 + pos y)) := by
  rw [outsAt0_B m c t h0]; frame_out
  simp only [read_unread_whole]
  obtain ⟨e0, e1, e2⟩ := held m c (t.val - 1) (Nat.lt_of_le_of_lt (Nat.sub_le _ _) t.isLt)
  rw [e0, e1, e2]
  exact stored_at (grid0.coords t) (iblk m c 0 t) _ _ y

end Cert.Points

end
-- ==== Proof.Array.lean ====
/- The kernel's result array: every element of the argument plus the number drawn at its flat position. -/
module

public import Idealize.ShloMosaic.Lib.Pipeline.Covers
public import proofs.«01_k».proof.Proof.Points
public import proofs.«01_k».proof.Proof.Gen.KernelIdeal.Run

@[expose] public section

set_option maxRecDepth 16384

noncomputable section

namespace Cert.Array

open Idealize.ShloMosaic Idealize.ShloMosaic.TcCoe Idealize.SL.Sem Idealize.ShloMosaic.StableHlo
open Cert.KernelIdeal Cert.KernelIdeal.Gen Cert.Threefry Cert.Points

variable (m : (ℓ : Loc nD τ sig) → Buf (Elt Ideal) ℓ)

/-- The argument's elements. -/
abbrev arg (c : Dev nD) : FVec Ideal S32x4096x1024 .f32 := m ((c : Thread nD τ).loc main_arg0)

/-- The argument's elements as rows of 1024. -/
abbrev rows (c : Dev nD) : FVec Ideal S131072x1024 .f32 := shapeCast S131072x1024 (arg m c) shapeCasts_S32x4096x1024_S131072x1024

/-- The rows plus the numbers drawn at their flat positions. -/
def noisy (x : FVec Ideal S131072x1024 .f32) : FVec Ideal S131072x1024 .f32 :=
  fun j => x j + drawn (BitVec.ofNat 32 ((j 0).val * 1024 + (j 1).val))

/-- The region finds the argument's rows in its input array. -/
theorem entry (c : Dev nD) : V m c main_v0 = rows m c := by
  simp only [V, V0, hostOps0, List.flatten_cons, List.flatten_nil, List.append_nil]
  after_results <;> rfl

/-- Where a point's blocks lie: both at the rows of the point, and the point's coordinate is its number. -/
theorem places : ∀ t : Fin cfg0.N, win0_0.index t = ![t.val, 0] ∧ win0_1.index t = ![t.val, 0] ∧ (grid0.coords t 0).val = t.val :=
  (by decide +kernel : ∀ t : Fin grid0.N, _)

/-- The output block after any point. -/
theorem out_at (c : Dev nD) (t : Fin cfg0.N) (y : S1024x1024.Idx) :
    (outsAt0 m c t.val t.isLt).1 y = xblk m c t y + drawn (BitVec.ofNat 32 (t.val * 1048576 + pos y)) := by
  have e := (places t).2.2
  by_cases h0 : t.val % 128 = 0
  · rw [out_first m c t h0 y, e]
  · rw [out_later m c t h0 y, e]

/-- The input block at an element is the row's element there. -/
theorem xblk_at (c : Dev nD) (t : Fin cfg0.N) (y : S1024x1024.Idx) (j : S131072x1024.Idx) (h0 : (j 0).val = t.val * 1024 + (y 0).val)
    (h1 : (j 1).val = (y 1).val) : xblk m c t y = rows m c j := by
  rw [← entry]
  show V m c main_v0 (((cfg0.win 0).blk t).view.emb y) = V m c main_v0 j
  congr 1
  funext a
  apply Fin.ext
  have e := (places t).1
  fin_cases a
  · show (((cfg0.win 0).blk t).view.emb y 0).val = (j 0).val
    blk_simp [e, h0]
  · show (((cfg0.win 0).blk t).view.emb y 1).val = (j 1).val
    blk_simp [e, h1]

/-- The region's result array. -/
theorem region (c : Dev nD) : Value.reg_main_v1 m c = noisy (rows m c) := by
  refine (dats m 0 c).arrAt_eq_of_covers 1 _ (by decide +kernel) fun t hf y => ?_
  blk_simp
  rw [after0_1]
  have e := (places t).2.1
  have h0 : (((cfg0.win 1).blk t).view.emb y 0).val = t.val * 1024 + (y 0).val := by
    blk_simp [e]
  have h1 : (((cfg0.win 1).blk t).view.emb y 1).val = (y 1).val := by
    blk_simp [e]
  refine (out_at m c t y).trans ?_
  rw [xblk_at m c t y _ h0 h1]
  unfold noisy pos
  refine congrArg (fun n => rows m c (((cfg0.win 1).blk t).view.emb y) + drawn (BitVec.ofNat 32 n)) ?_
  generalize (y 1).val = b at h1 ⊢
  generalize (y 0).val = a at h0 ⊢
  refine Eq.trans ?_ (congrArg₂ (fun p q => p * 1024 + q) h0 h1).symm
  ring

/-- The flat position of an element of the result. -/
def flat (i : S32x4096x1024.Idx) : ℕ := ((i 0).val * 4096 + (i 1).val) * 1024 + (i 2).val

/-- The kernel's result: every element plus the number drawn at its flat position. -/
theorem result (c : Dev nD) :
    shapeCast S32x4096x1024 (Value.reg_main_v1 m c) shapeCasts_S131072x1024_S32x4096x1024
      = fun i => arg m c i + drawn (BitVec.ofNat 32 (flat i)) := by
  rw [region]
  funext i
  have e : (Shape.reshapeEquiv shapeCasts_S131072x1024_S32x4096x1024 i 0).val * 1024
      + (Shape.reshapeEquiv shapeCasts_S131072x1024_S32x4096x1024 i 1).val = flat i := by
    have r := Shape.rowMajor_reshapeEquiv shapeCasts_S131072x1024_S32x4096x1024 i
    rw [Shape.rowMajor_val_two, Shape.rowMajor_val_three] at r
    exact r
  have x : rows m c (Shape.reshapeEquiv shapeCasts_S131072x1024_S32x4096x1024 i) = arg m c i :=
    congrFun (shapeCast_comp (arg m c) shapeCasts_S32x4096x1024_S131072x1024 shapeCasts_S131072x1024_S32x4096x1024
      |>.trans (shapeCast_id _ _)) i
  show rows m c (Shape.reshapeEquiv shapeCasts_S131072x1024_S32x4096x1024 i) + drawn _ = _
  rw [x, e]

end Cert.Array

end
-- ==== Proof.Lines.lean ====
/- What the reference's typed operations leave in the buffers: one lemma per kind of operation, and the two pieces its hash is made of, a round
   and a key addition, as lists of operations over any buffers. -/
module

public import Idealize.ShloMosaic.Lib.Pipeline.Frame
public import Idealize.ShloMosaic.Lib.ValueIdxCore
public import proofs.«01_k».proof.Proof.Threefry
public import proofs.«01_k».proof.Proof.Gen.ReferenceIdeal

@[expose] public section

noncomputable section

namespace Cert.Lines

open Idealize.ShloMosaic Idealize.ShloMosaic.TcCoe Idealize.SL.Sem Idealize.ShloMosaic.StableHlo
open Cert.ReferenceIdeal Cert.ReferenceIdeal.Facts₀ Cert.Threefry

/-- The contents of every buffer of the device. -/
abbrev Mem := Valuation τ sig (Elt Ideal)

/-- An operation of the reference. -/
abbrev Op := HloOp τ sig (Elt Ideal)

/-- A one-word buffer. -/
abbrev Scal := TRef sig ⟨S_, .i32⟩

/-- A buffer of one word per element. -/
abbrev Wide := TRef sig ⟨S32x4096x1024, .i32⟩

variable {T Ta Tb Ty : BufTy} (V : Mem)

/-- The contents of a typed buffer. -/
def rd (t : TRef sig T) : T.Contents (Elt Ideal) := t.ofBuf (V (Proc.devRef .tc t.ref))

/-- A constant is found in its buffer. -/
theorem rd_nullary (y : TRef sig Ty) (v : Ty.Contents (Elt Ideal)) : rd ((TRef.nullary y v : Op).result V) y = v := by
  unfold rd; rw [nullary_result, TRef.ofBuf_toBuf]

/-- A unary operation's value is found in its buffer. -/
theorem rd_unary (x : TRef sig Ta) (y : TRef sig Ty) (f : Ta.Contents (Elt Ideal) → Ty.Contents (Elt Ideal)) :
    rd ((TRef.unary x y f : Op).result V) y = f (rd V x) := by
  unfold rd; rw [unary_result, TRef.ofBuf_toBuf]

/-- A binary operation's value is found in its buffer. -/
theorem rd_binary (a : TRef sig Ta) (b : TRef sig Tb) (y : TRef sig Ty)
    (f : Ta.Contents (Elt Ideal) → Tb.Contents (Elt Ideal) → Ty.Contents (Elt Ideal)) :
    rd ((TRef.binary a b y f : Op).result V) y = f (rd V a) (rd V b) := by
  unfold rd; rw [binary_result, TRef.ofBuf_toBuf]

/-- A constant leaves the other buffers. -/
theorem rd_nullary_ne (t : TRef sig T) (y : TRef sig Ty) (v : Ty.Contents (Elt Ideal)) (h : t.ref ≠ y.ref) :
    rd ((TRef.nullary y v : Op).result V) t = rd V t := by
  unfold rd; rw [nullary_result_ne _ _ _ _ h]

/-- A unary operation leaves the other buffers. -/
theorem rd_unary_ne (t : TRef sig T) (x : TRef sig Ta) (y : TRef sig Ty) (f : Ta.Contents (Elt Ideal) → Ty.Contents (Elt Ideal))
    (h : t.ref ≠ y.ref) : rd ((TRef.unary x y f : Op).result V) t = rd V t := by
  unfold rd; rw [unary_result_ne _ _ _ _ _ _ h]

/-- A binary operation leaves the other buffers. -/
theorem rd_binary_ne (t : TRef sig T) (a : TRef sig Ta) (b : TRef sig Tb) (y : TRef sig Ty)
    (f : Ta.Contents (Elt Ideal) → Tb.Contents (Elt Ideal) → Ty.Contents (Elt Ideal)) (h : t.ref ≠ y.ref) :
    rd ((TRef.binary a b y f : Op).result V) t = rd V t := by
  unfold rd; rw [binary_result_ne _ _ _ _ _ _ _ _ h]

/-- A word spread over all elements. -/
abbrev spread (x : (⟨S_, .i32⟩ : BufTy).Contents (Elt Ideal)) : (⟨S32x4096x1024, .i32⟩ : BufTy).Contents (Elt Ideal) :=
  broadcastInDim S32x4096x1024 ![] bcast_S_S32x4096x1024 x

/-- One round: the sum of the two words, the second word rotated, and its combination with the sum. -/
def roundOps (x0 x1 s : Wide) (c1 : Scal) (b1 l : Wide) (c2 : Scal) (b2 r o y : Wide) (k1 k2 : W) : List Op :=
  [TRef.binary x0 x1 s addi, TRef.nullary c1 (constantI S_ 32 k1), TRef.unary c1 b1 (broadcastInDim S32x4096x1024 ![] bcast_S_S32x4096x1024),
   TRef.binary x1 b1 l Host.shli, TRef.nullary c2 (constantI S_ 32 k2), TRef.unary c2 b2 (broadcastInDim S32x4096x1024 ![] bcast_S_S32x4096x1024),
   TRef.binary x1 b2 r Host.shrui, TRef.binary l r o ori, TRef.binary s o y xori]

/-- One key addition: a key word added to the first word, another and a small constant to the second. -/
def injectOps (x0 x1 : Wide) (ka : Scal) (a s : Wide) (kb : Scal) (b t : Wide) (c : Scal) (d y : Wide) (k : W) : List Op :=
  [TRef.unary ka a (broadcastInDim S32x4096x1024 ![] bcast_S_S32x4096x1024), TRef.binary x0 a s addi,
   TRef.unary kb b (broadcastInDim S32x4096x1024 ![] bcast_S_S32x4096x1024), TRef.binary x1 b t addi, TRef.nullary c (constantI S_ 32 k),
   TRef.unary c d (broadcastInDim S32x4096x1024 ![] bcast_S_S32x4096x1024), TRef.binary t d y addi]

/-- The two words after a round, as whole buffers. -/
theorem round_read (x0 x1 s : Wide) (c1 : Scal) (b1 l : Wide) (c2 : Scal) (b2 r o y : Wide) (k1 k2 : W)
    (hd : [x0.ref, x1.ref, s.ref, c1.ref, b1.ref, l.ref, c2.ref, b2.ref, r.ref, o.ref, y.ref].Nodup) :
    rd (after (roundOps x0 x1 s c1 b1 l c2 b2 r o y k1 k2) V) s = addi (rd V x0) (rd V x1) ∧
    rd (after (roundOps x0 x1 s c1 b1 l c2 b2 r o y k1 k2) V) y = xori (addi (rd V x0) (rd V x1))
      (ori (Host.shli (rd V x1) (spread (constantI S_ 32 k1))) (Host.shrui (rd V x1) (spread (constantI S_ 32 k2)))) := by
  simp only [List.nodup_cons, List.mem_cons, not_or, List.not_mem_nil, not_false_eq_true, and_true] at hd
  simp only [roundOps, after_cons, after_nil]
  simp (disch := simp only [hd, ne_eq, not_false_eq_true]) only [rd_nullary, rd_unary, rd_binary, rd_nullary_ne, rd_unary_ne, rd_binary_ne, and_self, spread]

/-- The two words after a key addition, as whole buffers. -/
theorem inject_read (x0 x1 : Wide) (ka : Scal) (a s : Wide) (kb : Scal) (b t : Wide) (c : Scal) (d y : Wide) (k : W)
    (hd : [x0.ref, x1.ref, ka.ref, kb.ref, a.ref, s.ref, b.ref, t.ref, c.ref, d.ref, y.ref].Nodup) :
    rd (after (injectOps x0 x1 ka a s kb b t c d y k) V) s = addi (rd V x0) (spread (rd V ka)) ∧
    rd (after (injectOps x0 x1 ka a s kb b t c d y k) V) y = addi (addi (rd V x1) (spread (rd V kb))) (spread (constantI S_ 32 k)) := by
  simp only [List.nodup_cons, List.mem_cons, not_or, List.not_mem_nil, not_false_eq_true, and_true] at hd
  simp only [injectOps, after_cons, after_nil]
  simp (disch := simp only [hd, ne_eq, not_false_eq_true]) only [rd_nullary, rd_unary, rd_binary, rd_nullary_ne, rd_unary_ne, rd_binary_ne, and_self, spread]

/-- A round writes its nine buffers. -/
theorem round_kept (x0 x1 s : Wide) (c1 : Scal) (b1 l : Wide) (c2 : Scal) (b2 r o y : Wide) (k1 k2 : W) (q : Ref sig .tc)
    (h : q ∉ [s.ref, c1.ref, b1.ref, l.ref, c2.ref, b2.ref, r.ref, o.ref, y.ref]) :
    after (roundOps x0 x1 s c1 b1 l c2 b2 r o y k1 k2) V (Proc.devRef .tc q) = V (Proc.devRef .tc q) :=
  after_of_writes_sub _ _ (forall_writes_sub_of_map rfl) h

/-- A key addition writes its seven buffers. -/
theorem inject_kept (x0 x1 : Wide) (ka : Scal) (a s : Wide) (kb : Scal) (b t : Wide) (c : Scal) (d y : Wide) (k : W) (q : Ref sig .tc)
    (h : q ∉ [a.ref, s.ref, b.ref, t.ref, c.ref, d.ref, y.ref]) :
    after (injectOps x0 x1 ka a s kb b t c d y k) V (Proc.devRef .tc q) = V (Proc.devRef .tc q) :=
  after_of_writes_sub _ _ (forall_writes_sub_of_map rfl) h

/-- Every buffer of the operations is the core's own, and each operation fixes what it writes. -/
def Fine (ops : List Op) : Prop := ops.Forall fun op => op.bufs ⊆ tcRefs τ sig ∧ op.fresh = ∅

/-- A line followed by a line is fine if both are. -/
theorem Fine.append {l r : List Op} (hl : Fine l) (hr : Fine r) : Fine (l ++ r) := List.forall_append.mpr ⟨hl, hr⟩

/-- A round is fine. -/
theorem round_fine (x0 x1 s : Wide) (c1 : Scal) (b1 l : Wide) (c2 : Scal) (b2 r o y : Wide) (k1 k2 : W) :
    Fine (roundOps x0 x1 s c1 b1 l c2 b2 r o y k1 k2) := by
  simp only [Fine, roundOps, List.forall_cons, List.Forall, nullary_bufs_sub, unary_bufs_sub, binary_bufs_sub, true_and, and_true]
  exact ⟨rfl, rfl, rfl, rfl, rfl, rfl, rfl, rfl, rfl⟩

/-- A key addition is fine. -/
theorem inject_fine (x0 x1 : Wide) (ka : Scal) (a s : Wide) (kb : Scal) (b t : Wide) (c : Scal) (d y : Wide) (k : W) :
    Fine (injectOps x0 x1 ka a s kb b t c d y k) := by
  simp only [Fine, injectOps, List.forall_cons, List.Forall, nullary_bufs_sub, unary_bufs_sub, binary_bufs_sub, true_and, and_true]
  exact ⟨rfl, rfl, rfl, rfl, rfl, rfl, rfl⟩

/-- A spread word is the word at every element. -/
theorem spread_const (x : (⟨S_, .i32⟩ : BufTy).Contents (Elt Ideal)) (k : W) (h : ∀ j, x j = k) (i : S32x4096x1024.Idx) : spread x i = k := h _

/-- A host shift to the left by fewer places than the word has. -/
theorem shl_at (x k : W) (n : Nat) (hk : k.toNat = n) (hn : n < 32) : IntOp.shli .host x k = x <<< n := by
  unfold IntOp.shli; rw [if_pos (by omega)]
  exact congrArg (x <<< ·) hk

/-- A host shift to the right by fewer places than the word has. -/
theorem shr_at (x k : W) (n : Nat) (hk : k.toNat = n) (hn : n < 32) : IntOp.shrui .host x k = x >>> n := by
  unfold IntOp.shrui; rw [if_pos (by omega)]
  exact congrArg (x >>> ·) hk

/-! ## The state of the hash at one element -/

/-- The buffers that the hash reads again and again, those that are read after it, and the argument. -/
def kept : List (Ref sig .tc) := [main_call0_v5, main_call0_v7, main_call0_call0_v1, main_call0_v2, main_call0_v3, main_arg0]

/-- The three key words, the interval's ends and the argument are in their buffers. -/
structure Keys (X : FVec Ideal S32x4096x1024 .f32) (V : Mem) : Prop where
  /-- The first key word. -/
  first : ∀ j, rd V (.of main_call0_v5 : Scal) j = 0#32
  /-- The second key word. -/
  second : ∀ j, rd V (.of main_call0_v7 : Scal) j = 42#32
  /-- The third key word. -/
  third : ∀ j, rd V (.of main_call0_call0_v1 : Scal) j = key2
  /-- The interval's lower end. -/
  low : ∀ j, rd V (.of main_call0_v2 : TRef sig ⟨S1x1x1, .f32⟩) j = Ideal.ofBits .f32 0#32
  /-- The interval's upper end. -/
  high : ∀ j, rd V (.of main_call0_v3 : TRef sig ⟨S1x1x1, .f32⟩) j = Ideal.ofBits .f32 0x3F800000#32
  /-- The argument. -/
  arg : V (Proc.devRef .tc main_arg0) = X

/-- Operations that write none of the kept buffers leave them as they were. -/
theorem Keys.step {X : FVec Ideal S32x4096x1024 .f32} {V V' : Mem} (h : Keys X V)
    (e : ∀ q ∈ kept, V' (Proc.devRef .tc q) = V (Proc.devRef .tc q)) : Keys X V' := by
  have e0 := e main_call0_v5 (by decide)
  have e1 := e main_call0_v7 (by decide)
  have e2 := e main_call0_call0_v1 (by decide)
  have e3 := e main_call0_v2 (by decide)
  have e4 := e main_call0_v3 (by decide)
  have e5 := e main_arg0 (by decide)
  obtain ⟨h0, h1, h2, h3, h4, h5⟩ := h
  refine ⟨?_, ?_, ?_, ?_, ?_, e5.trans h5⟩
  · unfold rd at h0 ⊢; rw [e0]; exact h0
  · unfold rd at h1 ⊢; rw [e1]; exact h1
  · unfold rd at h2 ⊢; rw [e2]; exact h2
  · unfold rd at h3 ⊢; rw [e3]; exact h3
  · unfold rd at h4 ⊢; rw [e4]; exact h4

/-- At the element, the two buffers hold the pair of words, and the keys are in place. -/
structure Holds (X : FVec Ideal S32x4096x1024 .f32) (i : S32x4096x1024.Idx) (V : Mem) (a b : Wide) (p : W × W) : Prop where
  /-- The keys. -/
  keys : Keys X V
  /-- The first word. -/
  fst : rd V a i = p.1
  /-- The second word. -/
  snd : rd V b i = p.2

/-- A round of the reference is a round of the hash. -/
theorem Holds.round {X : FVec Ideal S32x4096x1024 .f32} {i : S32x4096x1024.Idx} {V : Mem} {x0 x1 : Wide} {p : W × W} (h : Holds X i V x0 x1 p)
    (s : Wide) (c1 : Scal) (b1 l : Wide) (c2 : Scal) (b2 r o y : Wide) (k1 k2 : W) (n : Nat)
    (hd : [x0.ref, x1.ref, s.ref, c1.ref, b1.ref, l.ref, c2.ref, b2.ref, r.ref, o.ref, y.ref].Nodup)
    (hq : ∀ q ∈ kept, q ∉ [s.ref, c1.ref, b1.ref, l.ref, c2.ref, b2.ref, r.ref, o.ref, y.ref])
    (h1 : k1.toNat = n) (h2 : k2.toNat = 32 - n) (hn : 0 < n ∧ n < 32) :
    Holds X i (after (roundOps x0 x1 s c1 b1 l c2 b2 r o y k1 k2) V) s y (mix n p) := by
  obtain ⟨es, ey⟩ := round_read V x0 x1 s c1 b1 l c2 b2 r o y k1 k2 hd
  refine ⟨h.keys.step fun q m => round_kept V x0 x1 s c1 b1 l c2 b2 r o y k1 k2 q (hq q m), ?_, ?_⟩
  · rw [es]
    show rd V x0 i + rd V x1 i = p.1 + p.2
    rw [h.fst, h.snd]
  · rw [ey]
    show (rd V x0 i + rd V x1 i) ^^^ (IntOp.shli .host (rd V x1 i) k1 ||| IntOp.shrui .host (rd V x1 i) k2) = (p.1 + p.2) ^^^ rot p.2 n
    rw [h.fst, h.snd, shl_at _ _ n h1 hn.2, shr_at _ _ (32 - n) h2 (by omega)]
    rfl

/-- A key addition of the reference is one of the hash. -/
theorem Holds.inject {X : FVec Ideal S32x4096x1024 .f32} {i : S32x4096x1024.Idx} {V : Mem} {x0 x1 : Wide} {p : W × W} (h : Holds X i V x0 x1 p)
    (ka : Scal) (a s : Wide) (kb : Scal) (b t : Wide) (c : Scal) (d y : Wide) (A B k : W)
    (hA : ∀ j, rd V ka j = A) (hB : ∀ j, rd V kb j = B)
    (hd : [x0.ref, x1.ref, ka.ref, kb.ref, a.ref, s.ref, b.ref, t.ref, c.ref, d.ref, y.ref].Nodup)
    (hq : ∀ q ∈ kept, q ∉ [a.ref, s.ref, b.ref, t.ref, c.ref, d.ref, y.ref]) :
    Holds X i (after (injectOps x0 x1 ka a s kb b t c d y k) V) s y (Threefry.inject A (B + k) p) := by
  obtain ⟨es, ey⟩ := inject_read V x0 x1 ka a s kb b t c d y k hd
  refine ⟨h.keys.step fun q m => inject_kept V x0 x1 ka a s kb b t c d y k q (hq q m), ?_, ?_⟩
  · rw [es]
    show rd V x0 i + spread (rd V ka) i = p.1 + A
    rw [h.fst, spread_const _ A hA]
  · rw [ey]
    show rd V x1 i + spread (rd V kb) i + k = p.2 + (B + k)
    rw [h.snd, spread_const _ B hB, BitVec.add_assoc]

end Cert.Lines

end
-- ==== Proof.RefRun.lean ====
/- The reference's operations in order, as lists, and its run: every run of the reference ends with the buffers at what the operations leave. -/
module

public import Idealize.ShloMosaic.Lib.StableHlo.RunHlo
public import proofs.«01_k».proof.Proof.Lines

@[expose] public section

set_option maxRecDepth 65536

noncomputable section

namespace Cert.RefRun

open Idealize.ShloMosaic Idealize.ShloMosaic.TcCoe Idealize.SL.Sem Idealize.ShloMosaic.StableHlo
open Cert.ReferenceIdeal Cert.ReferenceIdeal.Facts₀ Cert.Threefry Cert.Lines

/-- The key's two words, joined. -/
noncomputable def keyOps : List Op :=
  [nullary main_c (constantI S_ 32 42#32),
   nullary main_c_0 (constantI S_ 32 32#32),
   binary main_c main_c_0 main_v0 (Host.shrui : (⟨S_, .i32⟩ : BufTy).Contents (Elt Ideal) → (⟨S_, .i32⟩ : BufTy).Contents (Elt Ideal) → (⟨S_, .i32⟩ : BufTy).Contents (Elt Ideal)),
   unary main_v0 main_v1 (id : (⟨S_, .i32⟩ : BufTy).Contents (Elt Ideal) → (⟨S_, .i32⟩ : BufTy).Contents (Elt Ideal)),
   unary main_v1 main_v2 (broadcastInDim S1 ![] bcast_S_S1 : (⟨S_, .i32⟩ : BufTy).Contents (Elt Ideal) → (⟨S1, .i32⟩ : BufTy).Contents (Elt Ideal)),
   nullary main_c_1 (constantI S_ 32 4294967295#32),
   binary main_c main_c_1 main_v3 (andi : (⟨S_, .i32⟩ : BufTy).Contents (Elt Ideal) → (⟨S_, .i32⟩ : BufTy).Contents (Elt Ideal) → (⟨S_, .i32⟩ : BufTy).Contents (Elt Ideal)),
   unary main_v3 main_v4 (id : (⟨S_, .i32⟩ : BufTy).Contents (Elt Ideal) → (⟨S_, .i32⟩ : BufTy).Contents (Elt Ideal)),
   unary main_v4 main_v5 (broadcastInDim S1 ![] bcast_S_S1 : (⟨S_, .i32⟩ : BufTy).Contents (Elt Ideal) → (⟨S1, .i32⟩ : BufTy).Contents (Elt Ideal)),
   binary main_v2 main_v5 main_v6 ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)),
   nullary main_cst (constant (F := Ideal) S_ .f32 0x00000000#32),
   nullary main_cst_2 (constant (F := Ideal) S_ .f32 0x3F800000#32)]

/-- The interval's ends, and the two key words apart. -/
noncomputable def endsOps : List Op :=
  [TRef.unary (.of main_cst : TRef sig ⟨S_, .f32⟩) main_call0.v0 id,
   TRef.unary (.of main_cst_2 : TRef sig ⟨S_, .f32⟩) main_call0.v1 id,
   TRef.unary main_call0.v0 main_call0.v2 (broadcastInDim S1x1x1 ![] bcast_S_S1x1x1),
   TRef.unary main_call0.v1 main_call0.v3 (broadcastInDim S1x1x1 ![] bcast_S_S1x1x1),
   TRef.unary (.of main_v6 : TRef sig ⟨S2, .i32⟩) main_call0.v4 (extractStridedSlice S1 ![0] · slices_S2_S1_0),
   TRef.reshape main_call0.v4 main_call0.v5 (rfl : (.i32 : EltTy) = .i32) shapeCasts_S1_S_,
   TRef.unary (.of main_v6 : TRef sig ⟨S2, .i32⟩) main_call0.v6 (extractStridedSlice S1 ![1] · slices_S2_S1_1),
   TRef.reshape main_call0.v6 main_call0.v7 (rfl : (.i32 : EltTy) = .i32) shapeCasts_S1_S_]

/-- The counters: the flat position of every element, its upper word and its lower word. -/
noncomputable def countOps : List Op :=
  [TRef.nullary main_call0.v8 (iotaInDim S32x4096x1024 64 0),
   TRef.nullary main_call0.v9 (iotaInDim S32x4096x1024 64 1),
   TRef.nullary main_call0.v10 (iotaInDim S32x4096x1024 64 2),
   TRef.nullary main_call0.c (constantI S_ 64 4194304#64),
   TRef.unary main_call0.c main_call0.v11 (broadcastInDim S32x4096x1024 ![] bcast_S_S32x4096x1024),
   TRef.binary main_call0.v11 main_call0.v8 main_call0.v12 muli,
   TRef.nullary main_call0.c_0 (constantI S_ 64 1024#64),
   TRef.unary main_call0.c_0 main_call0.v13 (broadcastInDim S32x4096x1024 ![] bcast_S_S32x4096x1024),
   TRef.binary main_call0.v13 main_call0.v9 main_call0.v14 muli,
   TRef.nullary main_call0.c_1 (constantI S_ 64 1#64),
   TRef.unary main_call0.c_1 main_call0.v15 (broadcastInDim S32x4096x1024 ![] bcast_S_S32x4096x1024),
   TRef.binary main_call0.v15 main_call0.v10 main_call0.v16 muli,
   TRef.binary main_call0.v12 main_call0.v14 main_call0.v17 addi,
   TRef.binary main_call0.v17 main_call0.v16 main_call0.v18 addi,
   TRef.nullary main_call0.c_2 (constantI S_ 64 32#64),
   TRef.unary main_call0.c_2 main_call0.v19 (broadcastInDim S32x4096x1024 ![] bcast_S_S32x4096x1024),
   TRef.binary main_call0.v18 main_call0.v19 main_call0.v20 Host.shrui,
   TRef.unary main_call0.v18 main_call0.v21 (trunci 32 · natLt_32_64),
   TRef.unary main_call0.v20 main_call0.v22 (trunci 32 · natLt_32_64)]

/-- The third key word, and the first two added to the counters. -/
noncomputable def enterOps (arg0 arg1 : Scal) (arg2 arg3 : Wide) (φ : fn_threefry2x32.Bufs) : List Op :=
  [TRef.binary arg0 arg1 φ.v0 xori,
   TRef.nullary φ.c (constantI S_ 32 466688986#32),
   TRef.binary φ.v0 φ.c φ.v1 xori,
   TRef.unary arg0 φ.v2 (broadcastInDim S32x4096x1024 ![] bcast_S_S32x4096x1024),
   TRef.binary arg2 φ.v2 φ.v3 addi,
   TRef.unary arg1 φ.v4 (broadcastInDim S32x4096x1024 ![] bcast_S_S32x4096x1024),
   TRef.binary arg3 φ.v4 φ.v5 addi]

/-- Rounds 1 to 4 and the key addition after them. -/
noncomputable def group1 (arg0 arg1 : Scal) (φ : fn_threefry2x32.Bufs) : List Op :=
  roundOps φ.v3 φ.v5 φ.v6 φ.c_0 φ.v7 φ.v8 φ.c_1 φ.v9 φ.v10 φ.v11 φ.v12 13#32 19#32 ++
  (roundOps φ.v6 φ.v12 φ.v13 φ.c_2 φ.v14 φ.v15 φ.c_3 φ.v16 φ.v17 φ.v18 φ.v19 15#32 17#32 ++
  (roundOps φ.v13 φ.v19 φ.v20 φ.c_4 φ.v21 φ.v22 φ.c_5 φ.v23 φ.v24 φ.v25 φ.v26 26#32 6#32 ++
  (roundOps φ.v20 φ.v26 φ.v27 φ.c_6 φ.v28 φ.v29 φ.c_7 φ.v30 φ.v31 φ.v32 φ.v33 6#32 26#32 ++
  (injectOps φ.v27 φ.v33 arg1 φ.v34 φ.v35 φ.v1 φ.v36 φ.v37 φ.c_8 φ.v38 φ.v39 1#32))))

/-- Rounds 5 to 8 and the key addition after them. -/
noncomputable def group2 (arg0 arg1 : Scal) (φ : fn_threefry2x32.Bufs) : List Op :=
  roundOps φ.v35 φ.v39 φ.v40 φ.c_9 φ.v41 φ.v42 φ.c_10 φ.v43 φ.v44 φ.v45 φ.v46 17#32 15#32 ++
  (roundOps φ.v40 φ.v46 φ.v47 φ.c_11 φ.v48 φ.v49 φ.c_12 φ.v50 φ.v51 φ.v52 φ.v53 29#32 3#32 ++
  (roundOps φ.v47 φ.v53 φ.v54 φ.c_13 φ.v55 φ.v56 φ.c_14 φ.v57 φ.v58 φ.v59 φ.v60 16#32 16#32 ++
  (roundOps φ.v54 φ.v60 φ.v61 φ.c_15 φ.v62 φ.v63 φ.c_16 φ.v64 φ.v65 φ.v66 φ.v67 24#32 8#32 ++
  (injectOps φ.v61 φ.v67 φ.v1 φ.v68 φ.v69 arg0 φ.v70 φ.v71 φ.c_17 φ.v72 φ.v73 2#32))))

/-- Rounds 9 to 12 and the key addition after them. -/
noncomputable def group3 (arg0 arg1 : Scal) (φ : fn_threefry2x32.Bufs) : List Op :=
  roundOps φ.v69 φ.v73 φ.v74 φ.c_18 φ.v75 φ.v76 φ.c_19 φ.v77 φ.v78 φ.v79 φ.v80 13#32 19#32 ++
  (roundOps φ.v74 φ.v80 φ.v81 φ.c_20 φ.v82 φ.v83 φ.c_21 φ.v84 φ.v85 φ.v86 φ.v87 15#32 17#32 ++
  (roundOps φ.v81 φ.v87 φ.v88 φ.c_22 φ.v89 φ.v90 φ.c_23 φ.v91 φ.v92 φ.v93 φ.v94 26#32 6#32 ++
  (roundOps φ.v88 φ.v94 φ.v95 φ.c_24 φ.v96 φ.v97 φ.c_25 φ.v98 φ.v99 φ.v100 φ.v101 6#32 26#32 ++
  (injectOps φ.v95 φ.v101 arg0 φ.v102 φ.v103 arg1 φ.v104 φ.v105 φ.c_26 φ.v106 φ.v107 3#32))))

/-- Rounds 13 to 16 and the key addition after them. -/
noncomputable def group4 (arg0 arg1 : Scal) (φ : fn_threefry2x32.Bufs) : List Op :=
  roundOps φ.v103 φ.v107 φ.v108 φ.c_27 φ.v109 φ.v110 φ.c_28 φ.v111 φ.v112 φ.v113 φ.v114 17#32 15#32 ++
  (roundOps φ.v108 φ.v114 φ.v115 φ.c_29 φ.v116 φ.v117 φ.c_30 φ.v118 φ.v119 φ.v120 φ.v121 29#32 3#32 ++
  (roundOps φ.v115 φ.v121 φ.v122 φ.c_31 φ.v123 φ.v124 φ.c_32 φ.v125 φ.v126 φ.v127 φ.v128 16#32 16#32 ++
  (roundOps φ.v122 φ.v128 φ.v129 φ.c_33 φ.v130 φ.v131 φ.c_34 φ.v132 φ.v133 φ.v134 φ.v135 24#32 8#32 ++
  (injectOps φ.v129 φ.v135 arg1 φ.v136 φ.v137 φ.v1 φ.v138 φ.v139 φ.c_35 φ.v140 φ.v141 4#32))))

/-- Rounds 17 to 20 and the key addition after them. -/
noncomputable def group5 (arg0 arg1 : Scal) (φ : fn_threefry2x32.Bufs) : List Op :=
  roundOps φ.v137 φ.v141 φ.v142 φ.c_36 φ.v143 φ.v144 φ.c_37 φ.v145 φ.v146 φ.v147 φ.v148 13#32 19#32 ++
  (roundOps φ.v142 φ.v148 φ.v149 φ.c_38 φ.v150 φ.v151 φ.c_39 φ.v152 φ.v153 φ.v154 φ.v155 15#32 17#32 ++
  (roundOps φ.v149 φ.v155 φ.v156 φ.c_40 φ.v157 φ.v158 φ.c_41 φ.v159 φ.v160 φ.v161 φ.v162 26#32 6#32 ++
  (roundOps φ.v156 φ.v162 φ.v163 φ.c_42 φ.v164 φ.v165 φ.c_43 φ.v166 φ.v167 φ.v168 φ.v169 6#32 26#32 ++
  (injectOps φ.v163 φ.v169 φ.v1 φ.v170 φ.v171 arg0 φ.v172 φ.v173 φ.c_44 φ.v174 φ.v175 5#32))))

/-- The whole hash. -/
noncomputable def hashOps (arg0 arg1 : Scal) (arg2 arg3 : Wide) (φ : fn_threefry2x32.Bufs) : List Op :=
  enterOps arg0 arg1 arg2 arg3 φ ++ (group1 arg0 arg1 φ ++ (group2 arg0 arg1 φ ++ (group3 arg0 arg1 φ ++ (group4 arg0 arg1 φ ++ group5 arg0 arg1 φ))))

/-- The number of an element from its two words, and its sum with the argument's element. -/
noncomputable def leaveOps : List Op :=
  [TRef.binary main_call0.call0.v171 main_call0.call0.v175 main_call0.v24 xori,
   TRef.nullary main_call0.c_3 (constantI S_ 32 9#32),
   TRef.unary main_call0.c_3 main_call0.v25 (broadcastInDim S32x4096x1024 ![] bcast_S_S32x4096x1024),
   TRef.binary main_call0.v24 main_call0.v25 main_call0.v26 Host.shrui,
   TRef.nullary main_call0.c_4 (constantI S_ 32 1065353216#32),
   TRef.unary main_call0.c_4 main_call0.v27 (broadcastInDim S32x4096x1024 ![] bcast_S_S32x4096x1024),
   TRef.binary main_call0.v26 main_call0.v27 main_call0.v28 ori,
   TRef.unary main_call0.v28 main_call0.v29 (bitcastToFloat (F := Ideal) .f32),
   TRef.nullary main_call0.cst (constant (F := Ideal) S_ .f32 0x3F800000#32),
   TRef.unary main_call0.cst main_call0.v30 (broadcastInDim S32x4096x1024 ![] bcast_S_S32x4096x1024),
   TRef.binary main_call0.v29 main_call0.v30 main_call0.v31 (subf (F := Ideal) (φ := .f32)),
   TRef.binary main_call0.v3 main_call0.v2 main_call0.v32 (subf (F := Ideal) (φ := .f32)),
   TRef.unary main_call0.v32 main_call0.v33 (broadcastInDim S32x4096x1024 ![0, 1, 2] bcast_S1x1x1_S32x4096x1024_0_1_2),
   TRef.binary main_call0.v31 main_call0.v33 main_call0.v34 (mulf (F := Ideal) (φ := .f32)),
   TRef.unary main_call0.v2 main_call0.v35 (broadcastInDim S32x4096x1024 ![0, 1, 2] bcast_S1x1x1_S32x4096x1024_0_1_2),
   TRef.binary main_call0.v34 main_call0.v35 main_call0.v36 (addf (F := Ideal) (φ := .f32)),
   TRef.unary main_call0.v2 main_call0.v37 (broadcastInDim S32x4096x1024 ![0, 1, 2] bcast_S1x1x1_S32x4096x1024_0_1_2),
   TRef.binary main_call0.v37 main_call0.v36 main_call0.v38 (maximumf (F := Ideal) (φ := .f32)),
   binary main_arg0 main_v7 main_v8 (addf (F := Ideal) (φ := .f32) : (⟨S32x4096x1024, .f32⟩ : BufTy).Contents (Elt Ideal) → (⟨S32x4096x1024, .f32⟩ : BufTy).Contents (Elt Ideal) → (⟨S32x4096x1024, .f32⟩ : BufTy).Contents (Elt Ideal))]

/-- The reference's operations. -/
noncomputable def ops : List Op :=
  keyOps ++ (endsOps ++ (countOps ++ (hashOps main_call0.v5 main_call0.v7 main_call0.v22 main_call0.v21 main_call0_call0 ++ leaveOps)))

/-- The reference is its operations in order. -/
theorem main_seq (c : Dev nD) : main (F := Ideal) c = seq ops := rfl

/-! ## Every operation is fine -/

/-- The key's operations are fine. -/
theorem keyOps_fine : Fine keyOps := by
  simp only [Fine, keyOps, List.Forall, nullary_bufs_sub, unary_bufs_sub, binary_bufs_sub, reshape_bufs_sub, true_and, and_true]
  exact ⟨rfl, rfl, rfl, rfl, rfl, rfl, rfl, rfl, rfl, rfl, rfl, rfl⟩

/-- The operations for the interval's ends are fine. -/
theorem endsOps_fine : Fine endsOps := by
  simp only [Fine, endsOps, List.Forall, nullary_bufs_sub, unary_bufs_sub, binary_bufs_sub, reshape_bufs_sub, true_and, and_true]
  exact ⟨rfl, rfl, rfl, rfl, rfl, rfl, rfl, rfl⟩

/-- The counters' operations are fine. -/
theorem countOps_fine : Fine countOps := by
  simp only [Fine, countOps, List.Forall, nullary_bufs_sub, unary_bufs_sub, binary_bufs_sub, reshape_bufs_sub, true_and, and_true]
  exact ⟨rfl, rfl, rfl, rfl, rfl, rfl, rfl, rfl, rfl, rfl, rfl, rfl, rfl, rfl, rfl, rfl, rfl, rfl, rfl⟩

/-- The hash's first operations are fine. -/
theorem enterOps_fine (arg0 arg1 : Scal) (arg2 arg3 : Wide) (φ : fn_threefry2x32.Bufs) : Fine (enterOps arg0 arg1 arg2 arg3 φ) := by
  simp only [Fine, enterOps, List.Forall, nullary_bufs_sub, unary_bufs_sub, binary_bufs_sub, reshape_bufs_sub, true_and, and_true]
  exact ⟨rfl, rfl, rfl, rfl, rfl, rfl, rfl⟩

/-- The last operations are fine. -/
theorem leaveOps_fine : Fine leaveOps := by
  simp only [Fine, leaveOps, List.Forall, nullary_bufs_sub, unary_bufs_sub, binary_bufs_sub, reshape_bufs_sub, true_and, and_true]
  exact ⟨rfl, rfl, rfl, rfl, rfl, rfl, rfl, rfl, rfl, rfl, rfl, rfl, rfl, rfl, rfl, rfl, rfl, rfl, rfl⟩

/-- Group 1 is fine. -/
theorem group1_fine (arg0 arg1 : Scal) (φ : fn_threefry2x32.Bufs) : Fine (group1 arg0 arg1 φ) :=
  (round_fine ..).append <| (round_fine ..).append <| (round_fine ..).append <| (round_fine ..).append (inject_fine ..)

/-- Group 2 is fine. -/
theorem group2_fine (arg0 arg1 : Scal) (φ : fn_threefry2x32.Bufs) : Fine (group2 arg0 arg1 φ) :=
  (round_fine ..).append <| (round_fine ..).append <| (round_fine ..).append <| (round_fine ..).append (inject_fine ..)

/-- Group 3 is fine. -/
theorem group3_fine (arg0 arg1 : Scal) (φ : fn_threefry2x32.Bufs) : Fine (group3 arg0 arg1 φ) :=
  (round_fine ..).append <| (round_fine ..).append <| (round_fine ..).append <| (round_fine ..).append (inject_fine ..)

/-- Group 4 is fine. -/
theorem group4_fine (arg0 arg1 : Scal) (φ : fn_threefry2x32.Bufs) : Fine (group4 arg0 arg1 φ) :=
  (round_fine ..).append <| (round_fine ..).append <| (round_fine ..).append <| (round_fine ..).append (inject_fine ..)

/-- Group 5 is fine. -/
theorem group5_fine (arg0 arg1 : Scal) (φ : fn_threefry2x32.Bufs) : Fine (group5 arg0 arg1 φ) :=
  (round_fine ..).append <| (round_fine ..).append <| (round_fine ..).append <| (round_fine ..).append (inject_fine ..)

/-- The reference's operations are fine. -/
theorem ops_fine : Fine ops :=
  keyOps_fine.append <| endsOps_fine.append <| countOps_fine.append <| ((enterOps_fine ..).append <| (group1_fine ..).append <|
    (group2_fine ..).append <| (group3_fine ..).append <| (group4_fine ..).append (group5_fine ..)).append leaveOps_fine

/-- Every run of the reference ends with each buffer at what the operations leave there. -/
theorem run (m : (ℓ : Loc nD τ sig) → Buf (Elt Ideal) ℓ) (ρ : Dev nD → PrngReg) :
    θ_run (defs (F := Ideal)) (onTc (τ := τ) main) ⟨m, fun _ => 0, ρ⟩ fun r =>
      ∀ (d : Dev nD) (b : Ref sig .tc), r.2.mem ((d.tc : Thread nD τ).loc b) = after ops (launchContents m d) (Proc.devRef .tc b) :=
  run_seq (by decide) (by decide) defs main (fun _ => ops) main_seq (fun _ => ops_fine.imp fun _ h => h.1) m ρ
    (fun _ op h => ((List.forall_iff_forall_mem.mp ops_fine) op h).2)

end Cert.RefRun

end
-- ==== Proof.RefHash.lean ====
/- The reference's hash at one element: from the keyed counters, the five groups of rounds leave the two words of the hash. -/
module

public import proofs.«01_k».proof.Proof.RefRun

@[expose] public section

set_option maxRecDepth 65536

noncomputable section

namespace Cert.RefHash

open Idealize.ShloMosaic Idealize.ShloMosaic.TcCoe Idealize.SL.Sem Idealize.ShloMosaic.StableHlo
open Cert.ReferenceIdeal Cert.ReferenceIdeal.Facts₀ Cert.Threefry Cert.Lines Cert.RefRun

variable {X : FVec Ideal S32x4096x1024 .f32} {i : S32x4096x1024.Idx} {V : Mem} {p : W × W}

/-- The first key word's buffer. -/
abbrev a0 : Scal := main_call0.v5

/-- The second key word's buffer. -/
abbrev a1 : Scal := main_call0.v7

/-- The hash's buffers. -/
abbrev φ : fn_threefry2x32.Bufs := main_call0_call0

/-- Rounds 1 to 4 and the key addition after them. -/
theorem group1_holds (h : Holds X i V φ.v3 φ.v5 p) :
    Holds X i (after (group1 a0 a1 φ) V) φ.v35 φ.v39 (Threefry.inject 42#32 (key2 + 1#32) (mix 6 (mix 26 (mix 15 (mix 13 p))))) := by
  unfold group1
  rw [after_append, after_append, after_append, after_append]
  have h1 := h.round φ.v6 φ.c_0 φ.v7 φ.v8 φ.c_1 φ.v9 φ.v10 φ.v11 φ.v12 13#32 19#32 13 (by decide) (by decide) rfl rfl (by decide)
  have h2 := h1.round φ.v13 φ.c_2 φ.v14 φ.v15 φ.c_3 φ.v16 φ.v17 φ.v18 φ.v19 15#32 17#32 15 (by decide) (by decide) rfl rfl (by decide)
  have h3 := h2.round φ.v20 φ.c_4 φ.v21 φ.v22 φ.c_5 φ.v23 φ.v24 φ.v25 φ.v26 26#32 6#32 26 (by decide) (by decide) rfl rfl (by decide)
  have h4 := h3.round φ.v27 φ.c_6 φ.v28 φ.v29 φ.c_7 φ.v30 φ.v31 φ.v32 φ.v33 6#32 26#32 6 (by decide) (by decide) rfl rfl (by decide)
  exact h4.inject a1 φ.v34 φ.v35 φ.v1 φ.v36 φ.v37 φ.c_8 φ.v38 φ.v39 42#32 key2 1#32 h4.keys.second h4.keys.third (by decide) (by decide)

/-- Rounds 5 to 8 and the key addition after them. -/
theorem group2_holds (h : Holds X i V φ.v35 φ.v39 p) :
    Holds X i (after (group2 a0 a1 φ) V) φ.v69 φ.v73 (Threefry.inject key2 (0#32 + 2#32) (mix 24 (mix 16 (mix 29 (mix 17 p))))) := by
  unfold group2
  rw [after_append, after_append, after_append, after_append]
  have h1 := h.round φ.v40 φ.c_9 φ.v41 φ.v42 φ.c_10 φ.v43 φ.v44 φ.v45 φ.v46 17#32 15#32 17 (by decide) (by decide) rfl rfl (by decide)
  have h2 := h1.round φ.v47 φ.c_11 φ.v48 φ.v49 φ.c_12 φ.v50 φ.v51 φ.v52 φ.v53 29#32 3#32 29 (by decide) (by decide) rfl rfl (by decide)
  have h3 := h2.round φ.v54 φ.c_13 φ.v55 φ.v56 φ.c_14 φ.v57 φ.v58 φ.v59 φ.v60 16#32 16#32 16 (by decide) (by decide) rfl rfl (by decide)
  have h4 := h3.round φ.v61 φ.c_15 φ.v62 φ.v63 φ.c_16 φ.v64 φ.v65 φ.v66 φ.v67 24#32 8#32 24 (by decide) (by decide) rfl rfl (by decide)
  exact h4.inject φ.v1 φ.v68 φ.v69 a0 φ.v70 φ.v71 φ.c_17 φ.v72 φ.v73 key2 0#32 2#32 h4.keys.third h4.keys.first (by decide) (by decide)

/-- Rounds 9 to 12 and the key addition after them. -/
theorem group3_holds (h : Holds X i V φ.v69 φ.v73 p) :
    Holds X i (after (group3 a0 a1 φ) V) φ.v103 φ.v107 (Threefry.inject 0#32 (42#32 + 3#32) (mix 6 (mix 26 (mix 15 (mix 13 p))))) := by
  unfold group3
  rw [after_append, after_append, after_append, after_append]
  have h1 := h.round φ.v74 φ.c_18 φ.v75 φ.v76 φ.c_19 φ.v77 φ.v78 φ.v79 φ.v80 13#32 19#32 13 (by decide) (by decide) rfl rfl (by decide)
  have h2 := h1.round φ.v81 φ.c_20 φ.v82 φ.v83 φ.c_21 φ.v84 φ.v85 φ.v86 φ.v87 15#32 17#32 15 (by decide) (by decide) rfl rfl (by decide)
  have h3 := h2.round φ.v88 φ.c_22 φ.v89 φ.v90 φ.c_23 φ.v91 φ.v92 φ.v93 φ.v94 26#32 6#32 26 (by decide) (by decide) rfl rfl (by decide)
  have h4 := h3.round φ.v95 φ.c_24 φ.v96 φ.v97 φ.c_25 φ.v98 φ.v99 φ.v100 φ.v101 6#32 26#32 6 (by decide) (by decide) rfl rfl (by decide)
  exact h4.inject a0 φ.v102 φ.v103 a1 φ.v104 φ.v105 φ.c_26 φ.v106 φ.v107 0#32 42#32 3#32 h4.keys.first h4.keys.second (by decide) (by decide)

/-- Rounds 13 to 16 and the key addition after them. -/
theorem group4_holds (h : Holds X i V φ.v103 φ.v107 p) :
    Holds X i (after (group4 a0 a1 φ) V) φ.v137 φ.v141 (Threefry.inject 42#32 (key2 + 4#32) (mix 24 (mix 16 (mix 29 (mix 17 p))))) := by
  unfold group4
  rw [after_append, after_append, after_append, after_append]
  have h1 := h.round φ.v108 φ.c_27 φ.v109 φ.v110 φ.c_28 φ.v111 φ.v112 φ.v113 φ.v114 17#32 15#32 17 (by decide) (by decide) rfl rfl (by decide)
  have h2 := h1.round φ.v115 φ.c_29 φ.v116 φ.v117 φ.c_30 φ.v118 φ.v119 φ.v120 φ.v121 29#32 3#32 29 (by decide) (by decide) rfl rfl (by decide)
  have h3 := h2.round φ.v122 φ.c_31 φ.v123 φ.v124 φ.c_32 φ.v125 φ.v126 φ.v127 φ.v128 16#32 16#32 16 (by decide) (by decide) rfl rfl (by decide)
  have h4 := h3.round φ.v129 φ.c_33 φ.v130 φ.v131 φ.c_34 φ.v132 φ.v133 φ.v134 φ.v135 24#32 8#32 24 (by decide) (by decide) rfl rfl (by decide)
  exact h4.inject a1 φ.v136 φ.v137 φ.v1 φ.v138 φ.v139 φ.c_35 φ.v140 φ.v141 42#32 key2 4#32 h4.keys.second h4.keys.third (by decide) (by decide)

/-- Rounds 17 to 20 and the key addition after them. -/
theorem group5_holds (h : Holds X i V φ.v137 φ.v141 p) :
    Holds X i (after (group5 a0 a1 φ) V) φ.v171 φ.v175 (Threefry.inject key2 (0#32 + 5#32) (mix 6 (mix 26 (mix 15 (mix 13 p))))) := by
  unfold group5
  rw [after_append, after_append, after_append, after_append]
  have h1 := h.round φ.v142 φ.c_36 φ.v143 φ.v144 φ.c_37 φ.v145 φ.v146 φ.v147 φ.v148 13#32 19#32 13 (by decide) (by decide) rfl rfl (by decide)
  have h2 := h1.round φ.v149 φ.c_38 φ.v150 φ.v151 φ.c_39 φ.v152 φ.v153 φ.v154 φ.v155 15#32 17#32 15 (by decide) (by decide) rfl rfl (by decide)
  have h3 := h2.round φ.v156 φ.c_40 φ.v157 φ.v158 φ.c_41 φ.v159 φ.v160 φ.v161 φ.v162 26#32 6#32 26 (by decide) (by decide) rfl rfl (by decide)
  have h4 := h3.round φ.v163 φ.c_42 φ.v164 φ.v165 φ.c_43 φ.v166 φ.v167 φ.v168 φ.v169 6#32 26#32 6 (by decide) (by decide) rfl rfl (by decide)
  exact h4.inject φ.v1 φ.v170 φ.v171 a0 φ.v172 φ.v173 φ.c_44 φ.v174 φ.v175 key2 0#32 5#32 h4.keys.third h4.keys.first (by decide) (by decide)

/-- All five groups. -/
theorem groups_hold (n : W) (h : Holds X i V φ.v3 φ.v5 (0#32, n + 42#32)) :
    Holds X i (after (group1 a0 a1 φ ++ (group2 a0 a1 φ ++ (group3 a0 a1 φ ++ (group4 a0 a1 φ ++ group5 a0 a1 φ)))) V) φ.v171 φ.v175 (words n) := by
  rw [after_append, after_append, after_append, after_append]
  exact group5_holds (group4_holds (group3_holds (group2_holds (group1_holds h))))

end Cert.RefHash

end
-- ==== Proof.RefValue.lean ====
/- The reference's result: every element of the argument plus the number drawn at its flat position. -/
module

public import proofs.«01_k».proof.Proof.RefHash

@[expose] public section

set_option maxRecDepth 65536

noncomputable section

namespace Cert.RefValue

open Idealize.ShloMosaic Idealize.ShloMosaic.TcCoe Idealize.SL.Sem Idealize.ShloMosaic.StableHlo
open Cert.ReferenceIdeal Cert.ReferenceIdeal.Facts₀ Cert.Threefry Cert.Lines Cert.RefRun Cert.RefHash

variable (V : Mem)

/-- The key's two words: the seed's upper half, by a shift past its width, and its lower half, by a mask. -/
def keyWords : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

/-- Place zero of two. -/
def place0 : S2.Idx := fun a => ⟨0, by revert a; decide⟩

/-- Place one of two. -/
def place1 : S2.Idx := fun a => ⟨1, by revert a; decide⟩

/-- The first key word is zero. -/
theorem keyWords_zero : keyWords place0 = 0#32 := by
  show IntOp.shrui .host 42#32 32#32 = 0#32
  decide

/-- The second key word is the seed. -/
theorem keyWords_one : keyWords place1 = 42#32 := by
  show (42#32 &&& 4294967295#32 : W) = 42#32
  decide

/-- The first key word, cut out of the two. -/
theorem cut_zero (j : S_.Idx) : shapeCast S_ (extractStridedSlice S1 ![0] keyWords slices_S2_S1_0) shapeCasts_S1_S_ j = 0#32 := by
  show keyWords (fun a => ⟨![0] a + (Shape.reshapeEquiv shapeCasts_S1_S_ j (a.cast _)).val, _⟩) = _
  refine Eq.trans (congrArg keyWords (funext fun a => Fin.ext ?_)) keyWords_zero
  fin_cases a
  have h : (Shape.reshapeEquiv shapeCasts_S1_S_ j 0).val < 1 := (Shape.reshapeEquiv shapeCasts_S1_S_ j 0).isLt
  show 0 + (Shape.reshapeEquiv shapeCasts_S1_S_ j 0).val = 0
  omega

/-- The second key word, cut out of the two. -/
theorem cut_one (j : S_.Idx) : shapeCast S_ (extractStridedSlice S1 ![1] keyWords slices_S2_S1_1) shapeCasts_S1_S_ j = 42#32 := by
  show keyWords (fun a => ⟨![1] a + (Shape.reshapeEquiv shapeCasts_S1_S_ j (a.cast _)).val, _⟩) = _
  refine Eq.trans (congrArg keyWords (funext fun a => Fin.ext ?_)) keyWords_one
  fin_cases a
  have h : (Shape.reshapeEquiv shapeCasts_S1_S_ j 0).val < 1 := (Shape.reshapeEquiv shapeCasts_S1_S_ j 0).isLt
  show 1 + (Shape.reshapeEquiv shapeCasts_S1_S_ j 0).val = 1
  omega

/-- After the key's operations: the key's words, the interval's ends, the argument. -/
theorem key_read : after keyOps V (Proc.devRef .tc main_v6) = keyWords ∧
    after keyOps V (Proc.devRef .tc main_cst) = constant (F := Ideal) S_ .f32 0x00000000#32 ∧
    after keyOps V (Proc.devRef .tc main_cst_2) = constant (F := Ideal) S_ .f32 0x3F800000#32 ∧
    after keyOps V (Proc.devRef .tc main_arg0) = V (Proc.devRef .tc main_arg0) := by
  unfold keyOps
  refine ⟨?_, ?_, ?_, ?_⟩
  · after_results <;> rfl
  · after_results <;> rfl
  · after_results <;> rfl
  · after_results <;> rfl

/-- After the operations for the ends. -/
theorem ends_read :
    after endsOps V (Proc.devRef .tc main_call0_v5) = shapeCast S_ (extractStridedSlice S1 ![0] (V (Proc.devRef .tc main_v6)) slices_S2_S1_0) shapeCasts_S1_S_ ∧
    after endsOps V (Proc.devRef .tc main_call0_v7) = shapeCast S_ (extractStridedSlice S1 ![1] (V (Proc.devRef .tc main_v6)) slices_S2_S1_1) shapeCasts_S1_S_ ∧
    after endsOps V (Proc.devRef .tc main_call0_v2) = broadcastInDim S1x1x1 ![] bcast_S_S1x1x1 (V (Proc.devRef .tc main_cst)) ∧
    after endsOps V (Proc.devRef .tc main_call0_v3) = broadcastInDim S1x1x1 ![] bcast_S_S1x1x1 (V (Proc.devRef .tc main_cst_2)) ∧
    after endsOps V (Proc.devRef .tc main_arg0) = V (Proc.devRef .tc main_arg0) := by
  unfold endsOps
  refine ⟨?_, ?_, ?_, ?_, ?_⟩
  · after_results <;> rfl
  · after_results <;> rfl
  · after_results <;> rfl
  · after_results <;> rfl
  · after_results <;> rfl

/-- The flat positions, in double words. -/
def positions : IVec S32x4096x1024 64 :=
  addi (addi (muli (broadcastInDim S32x4096x1024 ![] bcast_S_S32x4096x1024 (constantI S_ 64 4194304#64)) (iotaInDim S32x4096x1024 64 0))
      (muli (broadcastInDim S32x4096x1024 ![] bcast_S_S32x4096x1024 (constantI S_ 64 1024#64)) (iotaInDim S32x4096x1024 64 1)))
    (muli (broadcastInDim S32x4096x1024 ![] bcast_S_S32x4096x1024 (constantI S_ 64 1#64)) (iotaInDim S32x4096x1024 64 2))

/-- The flat position of an element. -/
def flat (i : S32x4096x1024.Idx) : ℕ := ((i 0).val * 4096 + (i 1).val) * 1024 + (i 2).val

/-- The flat positions fit a word. -/
theorem flat_lt (i : S32x4096x1024.Idx) : flat i < 134217728 := by
  have h0 : (i 0).val < 32 := (i 0).isLt
  have h1 : (i 1).val < 4096 := (i 1).isLt
  have h2 : (i 2).val < 1024 := (i 2).isLt
  unfold flat
  omega

/-- Three coordinates weighted and summed, in double words. -/
theorem weigh (a b c : ℕ) : (4194304#64 * BitVec.ofNat 64 a + 1024#64 * BitVec.ofNat 64 b + 1#64 * BitVec.ofNat 64 c)
    = BitVec.ofNat 64 ((a * 4096 + b) * 1024 + c) := by
  apply BitVec.eq_of_toNat_eq
  simp only [BitVec.toNat_add, BitVec.toNat_mul, BitVec.toNat_ofNat]
  omega

/-- The position of an element. -/
theorem positions_at (i : S32x4096x1024.Idx) : positions i = BitVec.ofNat 64 (flat i) := weigh _ _ _

/-- The upper word of a position is zero. -/
theorem upper_at (i : S32x4096x1024.Idx) :
    trunci 32 (Host.shrui positions (broadcastInDim S32x4096x1024 ![] bcast_S_S32x4096x1024 (constantI S_ 64 32#64))) natLt_32_64 i = 0#32 := by
  show (IntOp.shrui .host (positions i) 32#64).setWidth 32 = 0#32
  have h := flat_lt i
  rw [positions_at]
  generalize flat i = n at h
  apply BitVec.eq_of_toNat_eq
  unfold IntOp.shrui
  rw [if_pos (by decide)]
  show ((BitVec.ofNat 64 n >>> 32).setWidth 32).toNat = 0
  simp only [BitVec.toNat_setWidth, BitVec.toNat_ushiftRight, BitVec.toNat_ofNat, Nat.shiftRight_eq_div_pow]
  omega

/-- The lower word of a position. -/
theorem lower_at (i : S32x4096x1024.Idx) : trunci 32 positions natLt_32_64 i = BitVec.ofNat 32 (flat i) := by
  show (positions i).setWidth 32 = _
  rw [positions_at]
  apply BitVec.eq_of_toNat_eq
  simp only [BitVec.toNat_setWidth, BitVec.toNat_ofNat]
  omega

/-- After the counters' operations. -/
theorem count_read : after countOps V (Proc.devRef .tc main_call0_v21) = trunci 32 positions natLt_32_64 ∧
    after countOps V (Proc.devRef .tc main_call0_v22)
      = trunci 32 (Host.shrui positions (broadcastInDim S32x4096x1024 ![] bcast_S_S32x4096x1024 (constantI S_ 64 32#64))) natLt_32_64 := by
  unfold countOps positions
  refine ⟨?_, ?_⟩
  · after_results <;> rfl
  · after_results <;> rfl

/-- The counters' operations leave the key words, the ends and the argument. -/
theorem count_kept (q : Ref sig .tc) (h : q ∈ kept) : after countOps V (Proc.devRef .tc q) = V (Proc.devRef .tc q) :=
  after_of_writes_sub (W := [main_call0_v8, main_call0_v9, main_call0_v10, main_call0_c, main_call0_v11, main_call0_v12, main_call0_c_0, main_call0_v13,
    main_call0_v14, main_call0_c_1, main_call0_v15, main_call0_v16, main_call0_v17, main_call0_v18, main_call0_c_2, main_call0_v19, main_call0_v20,
    main_call0_v21, main_call0_v22]) _ _ (forall_writes_sub_of_map rfl) (by revert q; decide)

/-- After the hash's first operations. -/
theorem enter_read :
    after (enterOps a0 a1 main_call0.v22 main_call0.v21 φ) V (Proc.devRef .tc main_call0_call0_v1)
      = xori (xori (V (Proc.devRef .tc main_call0_v5)) (V (Proc.devRef .tc main_call0_v7))) (constantI S_ 32 466688986#32) ∧
    after (enterOps a0 a1 main_call0.v22 main_call0.v21 φ) V (Proc.devRef .tc main_call0_call0_v3)
      = addi (V (Proc.devRef .tc main_call0_v22)) (spread (V (Proc.devRef .tc main_call0_v5))) ∧
    after (enterOps a0 a1 main_call0.v22 main_call0.v21 φ) V (Proc.devRef .tc main_call0_call0_v5)
      = addi (V (Proc.devRef .tc main_call0_v21)) (spread (V (Proc.devRef .tc main_call0_v7))) := by
  unfold enterOps
  refine ⟨?_, ?_, ?_⟩
  · after_results <;> rfl
  · after_results <;> rfl
  · after_results <;> rfl

/-- The hash's first operations leave the first two key words, the ends and the argument. -/
theorem enter_kept (q : Ref sig .tc) (h : q ∈ [main_call0_v5, main_call0_v7, main_call0_v2, main_call0_v3, main_arg0]) :
    after (enterOps a0 a1 main_call0.v22 main_call0.v21 φ) V (Proc.devRef .tc q) = V (Proc.devRef .tc q) :=
  after_of_writes_sub (W := [main_call0_call0_v0, main_call0_call0_c, main_call0_call0_v1, main_call0_call0_v2, main_call0_call0_v3, main_call0_call0_v4,
    main_call0_call0_v5]) _ _ (forall_writes_sub_of_map rfl) (by revert q; decide)

/-- After the last operations: the argument's element plus its number, scaled to the interval and clipped at its lower end. -/
theorem leave_read : after leaveOps V (Proc.devRef .tc main_v8)
    = addf (F := Ideal) (φ := .f32) (V (Proc.devRef .tc main_arg0))
        (maximumf (F := Ideal) (φ := .f32) (broadcastInDim S32x4096x1024 ![0, 1, 2] bcast_S1x1x1_S32x4096x1024_0_1_2 (V (Proc.devRef .tc main_call0_v2)))
          (addf (mulf (subf (bitcastToFloat (F := Ideal) .f32 (ori (Host.shrui (xori (V (Proc.devRef .tc main_call0_v23_0)) (V (Proc.devRef .tc main_call0_v23_1)))
                  (spread (constantI S_ 32 9#32))) (spread (constantI S_ 32 1065353216#32))))
                (broadcastInDim S32x4096x1024 ![] bcast_S_S32x4096x1024 (constant (F := Ideal) S_ .f32 0x3F800000#32)))
              (broadcastInDim S32x4096x1024 ![0, 1, 2] bcast_S1x1x1_S32x4096x1024_0_1_2
                (subf (F := Ideal) (φ := .f32) (V (Proc.devRef .tc main_call0_v3)) (V (Proc.devRef .tc main_call0_v2)))))
            (broadcastInDim S32x4096x1024 ![0, 1, 2] bcast_S1x1x1_S32x4096x1024_0_1_2 (V (Proc.devRef .tc main_call0_v2))))) := by
  unfold leaveOps
  after_results <;> rfl

/-- The last operations leave the argument. -/
theorem leave_kept : after leaveOps V (Proc.devRef .tc main_arg0) = V (Proc.devRef .tc main_arg0) := by
  unfold leaveOps
  after_results <;> rfl

/-- The last operations at an element, from the two words and the interval's ends. -/
theorem scale_at (x : FVec Ideal S32x4096x1024 .f32) (u v : IVec S32x4096x1024 32) (lo hi : FVec Ideal S1x1x1 .f32) (i : S32x4096x1024.Idx) (p : W × W)
    (hl : ∀ j, lo j = Ideal.ofBits .f32 0#32) (hh : ∀ j, hi j = Ideal.ofBits .f32 0x3F800000#32) (h1 : u i = p.1) (h2 : v i = p.2) :
    addf x (maximumf (broadcastInDim S32x4096x1024 ![0, 1, 2] bcast_S1x1x1_S32x4096x1024_0_1_2 lo)
          (addf (mulf (subf (bitcastToFloat (F := Ideal) .f32 (ori (Host.shrui (xori u v)
                  (spread (constantI S_ 32 9#32))) (spread (constantI S_ 32 1065353216#32))))
                (broadcastInDim S32x4096x1024 ![] bcast_S_S32x4096x1024 (constant (F := Ideal) S_ .f32 0x3F800000#32)))
              (broadcastInDim S32x4096x1024 ![0, 1, 2] bcast_S1x1x1_S32x4096x1024_0_1_2 (subf hi lo)))
            (broadcastInDim S32x4096x1024 ![0, 1, 2] bcast_S1x1x1_S32x4096x1024_0_1_2 lo))) i = x i + draw p := by
  obtain ⟨q, hq⟩ : ∃ q : S1x1x1.Idx, ∀ y : FVec Ideal S1x1x1 .f32,
      broadcastInDim S32x4096x1024 ![0, 1, 2] bcast_S1x1x1_S32x4096x1024_0_1_2 y i = y q := ⟨_, fun _ => rfl⟩
  show x i + max (broadcastInDim S32x4096x1024 ![0, 1, 2] bcast_S1x1x1_S32x4096x1024_0_1_2 lo i)
    ((Ideal.ofBits .f32 (IntOp.shrui .host (u i ^^^ v i) 9#32 ||| 1065353216#32) - Ideal.ofBits .f32 0x3F800000#32)
        * broadcastInDim S32x4096x1024 ![0, 1, 2] bcast_S1x1x1_S32x4096x1024_0_1_2 (subf hi lo) i
      + broadcastInDim S32x4096x1024 ![0, 1, 2] bcast_S1x1x1_S32x4096x1024_0_1_2 lo i) = x i + draw p
  rw [hq, hq]
  show x i + max (lo q) ((Ideal.ofBits .f32 (IntOp.shrui .host (u i ^^^ v i) 9#32 ||| 1065353216#32) - Ideal.ofBits .f32 0x3F800000#32)
      * (hi q - lo q) + lo q) = x i + draw p
  rw [hl, hh, h1, h2, shr_at _ _ 9 rfl (by decide), one_bits, zero_bits]
  unfold draw
  rw [one_bits]
  exact congrArg (x i + ·) (clip_draw _)

/-- The number that the reference makes of an element's two words is the number drawn. -/
theorem leave_at (X : FVec Ideal S32x4096x1024 .f32) (i : S32x4096x1024.Idx) (n : W) (h : Holds X i V φ.v171 φ.v175 (words n)) :
    after leaveOps V (Proc.devRef .tc main_v8) i = X i + drawn n := by
  rw [leave_read, h.keys.arg]
  exact scale_at X _ _ _ _ i (words n) h.keys.low h.keys.high h.fst h.snd

/-- A word of every element plus one word. -/
theorem sum_at (a : IVec S32x4096x1024 32) (b : IVec S_ 32) (i : S32x4096x1024.Idx) (u k : W) (ha : a i = u) (hb : ∀ j, b j = k) :
    addi a (spread b) i = u + k := by
  show a i + spread b i = u + k
  rw [ha, spread_const _ _ hb]

/-- The third key word, from the first two. -/
theorem third_at (a b : IVec S_ 32) (j : S_.Idx) (ha : a j = 0#32) (hb : b j = 42#32) :
    xori (xori a b) (constantI S_ 32 466688986#32) j = key2 := by
  show (a j ^^^ b j) ^^^ 466688986#32 = key2
  rw [ha, hb]
  decide

/-- The buffers before the hash's groups: the keys, and the two keyed counters at an element. -/
theorem enter_holds (i : S32x4096x1024.Idx) :
    Holds (V (Proc.devRef .tc main_arg0)) i (after (enterOps a0 a1 main_call0.v22 main_call0.v21 φ) (after countOps (after endsOps (after keyOps V))))
      φ.v3 φ.v5 (0#32, BitVec.ofNat 32 (flat i) + 42#32) := by
  obtain ⟨k0, k1, k2, k3⟩ := key_read V
  generalize after keyOps V = V1 at k0 k1 k2 k3 ⊢
  obtain ⟨d0, d1, d2, d3, d4⟩ := ends_read V1
  generalize after endsOps V1 = V2 at d0 d1 d2 d3 d4 ⊢
  obtain ⟨c0, c1⟩ := count_read V2
  have ck := count_kept V2
  generalize after countOps V2 = V3 at c0 c1 ck ⊢
  obtain ⟨e0, e1, e2⟩ := enter_read V3
  have ek := enter_kept V3
  generalize after (enterOps a0 a1 main_call0.v22 main_call0.v21 φ) V3 = V4 at e0 e1 e2 ek ⊢
  rw [k0] at d0 d1
  rw [k1] at d2
  rw [k2] at d3
  have f0 : ∀ j, V3 (Proc.devRef .tc main_call0_v5) j = 0#32 := fun j =>
    (congrFun ((ck main_call0_v5 (by decide)).trans d0) j).trans (cut_zero j)
  have f1 : ∀ j, V3 (Proc.devRef .tc main_call0_v7) j = 42#32 := fun j =>
    (congrFun ((ck main_call0_v7 (by decide)).trans d1) j).trans (cut_one j)
  refine ⟨⟨?_, ?_, ?_, ?_, ?_, ?_⟩, ?_, ?_⟩
  · exact fun j => (congrFun (ek main_call0_v5 (by decide)) j).trans (f0 j)
  · exact fun j => (congrFun (ek main_call0_v7 (by decide)) j).trans (f1 j)
  · intro j
    exact (congrFun e0 j).trans (third_at _ _ j (f0 j) (f1 j))
  · exact fun j => congrFun ((ek main_call0_v2 (by decide)).trans ((ck main_call0_v2 (by decide)).trans d2)) j
  · exact fun j => congrFun ((ek main_call0_v3 (by decide)).trans ((ck main_call0_v3 (by decide)).trans d3)) j
  · exact (ek main_arg0 (by decide)).trans ((ck main_arg0 (by decide)).trans (d4.trans k3))
  · exact (congrFun e1 i).trans (sum_at _ _ i 0#32 0#32 ((congrFun c1 i).trans (upper_at i)) f0)
  · exact (congrFun e2 i).trans (sum_at _ _ i _ _ ((congrFun c0 i).trans (lower_at i)) f1)

/-- An array plus the numbers drawn at the flat positions. -/
def noisy (x : FVec Ideal S32x4096x1024 .f32) : FVec Ideal S32x4096x1024 .f32 := fun i => x i + drawn (BitVec.ofNat 32 (flat i))

/-- The reference's result, and its argument unchanged. -/
theorem result : after ops V (Proc.devRef .tc main_v8) = noisy (V (Proc.devRef .tc main_arg0))
    ∧ after ops V (Proc.devRef .tc main_arg0) = V (Proc.devRef .tc main_arg0) := by
  unfold ops hashOps
  rw [after_append, after_append, after_append, after_append, after_append]
  have h := fun i => groups_hold _ (enter_holds V i)
  constructor
  · exact funext fun i => leave_at _ _ i _ (h i)
  · rw [leave_kept]
    exact (h fun a => ⟨0, by revert a; decide⟩).keys.arg

end Cert.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Run
public import proofs.«01_k».proof.Proof.Array
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The reference runs, leaves its argument, and ends with every semaphore at zero. -/
theorem reference_frame : Cert.quiescent_ReferenceIdeal := fun m g _ =>
  (θ_run _ _ _).mono (fun r h => ⟨fun c => (h c Cert.ReferenceIdeal.main_arg0).trans (Cert.RefValue.result _).2,
    Idealize.ShloMosaic.sem_eq_zero_of_no_sems (by decide) r.2⟩) (Cert.RefRun.run m g)

/-- From equal arguments the kernel and the reference end with equal results: both are the argument plus the numbers drawn. -/
theorem equal_results : Cert.algebraic_KernelIdeal_ReferenceIdeal := by
  intro m g m' g' _ hm
  refine ⟨_, Cert.KernelIdeal.Value.run (F := Ideal) m g, ?_⟩
  refine (θ_run _ _ _).mono (fun r h c => ⟨?_, (h c Cert.ReferenceIdeal.main_arg0).trans (Cert.RefValue.result _).2⟩) (Cert.RefRun.run m' g')
  refine ((h c Cert.ReferenceIdeal.main_v8).trans (Cert.RefValue.result _).1).trans ?_
  exact (congrArg Cert.RefValue.noisy (hm c)).trans (Cert.Array.result m c).symm

/-- The certificate's claim. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, equal_results⟩

end Cert.Proof

end
